-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_above_bottom [hPre_above_bottom : Cert.Pre_above_bottom.Facts] (m : (ℓ : Loc Cert.KernelIdeal.nD Cert.KernelIdeal.τ Cert.KernelIdeal.sig) → Buf (Elt Ideal) ℓ) : Prop :=
  ∀ c : Dev Cert.KernelIdeal.nD,
    (Cert.Pre_above_bottom.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_above_bottom [hPre_above_bottom : Cert.Pre_above_bottom.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_above_bottom.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_above_bottom [hKernelIdeal : Cert.KernelIdeal.Facts] [hPre_above_bottom : Cert.Pre_above_bottom.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_above_bottom m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_above_bottom [hReferenceIdeal : Cert.ReferenceIdeal.Facts] [hPre_above_bottom : Cert.Pre_above_bottom.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_above_bottom m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_above_bottom [hKernelIdeal : Cert.KernelIdeal.Facts] [hReferenceIdeal : Cert.ReferenceIdeal.Facts] [hPre_above_bottom : Cert.Pre_above_bottom.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_above_bottom m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v298) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_above_bottom : Cert.Pre_above_bottom.Facts),
    quiescent_Kernel (hKernel := hKernel)
    ∧ quiescent_KernelIdeal (hKernelIdeal := hKernelIdeal)
    ∧ quiescent_KernelIdeal_pre_above_bottom (hKernelIdeal := hKernelIdeal) (hPre_above_bottom := hPre_above_bottom)
    ∧ quiescent_ReferenceIdeal (hReferenceIdeal := hReferenceIdeal)
    ∧ quiescent_ReferenceIdeal_pre_above_bottom (hReferenceIdeal := hReferenceIdeal) (hPre_above_bottom := hPre_above_bottom)
    ∧ preserves_Kernel_KernelIdeal
    ∧ algebraic_KernelIdeal_ReferenceIdeal_pre_above_bottom (hKernelIdeal := hKernelIdeal) (hReferenceIdeal := hReferenceIdeal) (hPre_above_bottom := hPre_above_bottom)
-- ==== Pre_above_bottom.lean ====
abbrev S4096x17x256 : Shape := ⟨3, ![4096, 17, 256]⟩
abbrev S4096x16x256 : Shape := ⟨3, ![4096, 16, 256]⟩
abbrev S4096x8x17x17 : Shape := ⟨4, ![4096, 8, 17, 17]⟩
abbrev S1 : Shape := ⟨1, ![1]⟩
abbrev S_ : Shape := ⟨0, ![]⟩

class Facts : Prop where
  bcast_S_S4096x8x17x17 : S_.BroadcastsInDim S4096x8x17x17 (![] : Fin 0 → Fin S4096x8x17x17.rank)
  reducesTo_S4096x8x17x17_S_d0_1_2_3 : S4096x8x17x17.ReducesTo [0, 1, 2, 3] S_
  h_S_ : 0 < S_.numel

variable [Facts]

def fn {F : FTy → Type} [FloatOps F] (main_arg0 : FVec F S4096x17x256 .f32) (main_arg1 : FVec F S4096x16x256 .f32) (main_arg2 : FVec F S4096x8x17x17 .f32) (main_arg3 : FVec F S1 .f32) : IVec S_ 1 :=
  let main_cst : FVec F S_ .f32 := constant S_ .f32 0xFF800000#32
  let main_v0 : FVec F S4096x8x17x17 .f32 := broadcastInDim S4096x8x17x17 ![] bcast_S_S4096x8x17x17 main_cst
  let main_v1 : IVec S4096x8x17x17 1 := cmpf .ogt main_arg2 main_v0
  let main_c : IVec S_ 1 := constantI S_ 1 1#1
  let main_v2 : IVec S_ 1 := (fun x v => Host.reduce IntOp.andi x v reducesTo_S4096x8x17x17_S_d0_1_2_3 h_S_) main_v1 main_c
  main_v2
-- ==== Kernel.lean ====
abbrev S4096x17x256 : Shape := ⟨3, ![4096, 17, 256]⟩
abbrev S4096x16x256 : Shape := ⟨3, ![4096, 16, 256]⟩
abbrev S4096x8x17x17 : Shape := ⟨4, ![4096, 8, 17, 17]⟩
abbrev S1 : Shape := ⟨1, ![1]⟩
abbrev S17x17x8x4096 : Shape := ⟨4, ![17, 17, 8, 4096]⟩
abbrev S17x4096x256 : Shape := ⟨3, ![17, 4096, 256]⟩
abbrev S17x17x8x256 : Shape := ⟨4, ![17, 17, 8, 256]⟩
abbrev S17x256x256 : Shape := ⟨3, ![17, 256, 256]⟩
abbrev S256x16x256 : Shape := ⟨3, ![256, 16, 256]⟩
abbrev S17x256 : Shape := ⟨2, ![17, 256]⟩
abbrev S256 : Shape := ⟨1, ![256]⟩
abbrev S1x256 : Shape := ⟨2, ![1, 256]⟩
abbrev S256x1 : Shape := ⟨2, ![256, 1]⟩
abbrev S1x256x256 : Shape := ⟨3, ![1, 256, 256]⟩
abbrev S256x256 : Shape := ⟨2, ![256, 256]⟩
abbrev S256x1x256 : Shape := ⟨3, ![256, 1, 256]⟩

abbrev nBuf : Space → Nat
  | .hbm => 8
  | .vmem => 8
  | .smem => 1
  | _ => 0

abbrev bufTy : (tb : Table) → Fin (tcTables nBuf tb) → BufTy
  | .hbm, ⟨0, _⟩ => ⟨S4096x17x256, .f32⟩
  | .hbm, ⟨1, _⟩ => ⟨S4096x16x256, .f32⟩
  | .hbm, ⟨2, _⟩ => ⟨S4096x8x17x17, .f32⟩
  | .hbm, ⟨3, _⟩ => ⟨S1, .f32⟩
  | .hbm, ⟨4, _⟩ => ⟨S17x17x8x4096, .f32⟩
  | .hbm, ⟨5, _⟩ => ⟨S17x4096x256, .f32⟩
  | .hbm, ⟨6, _⟩ => ⟨S17x4096x256, .f32⟩
  | .hbm, ⟨7, _⟩ => ⟨S4096x17x256, .f32⟩
  | .local _ .vmem, ⟨0, _⟩ => ⟨S17x17x8x256, .f32⟩
  | .local _ .vmem, ⟨1, _⟩ => ⟨S17x17x8x256, .f32⟩
  | .local _ .vmem, ⟨2, _⟩ => ⟨S17x256x256, .f32⟩
  | .local _ .vmem, ⟨3, _⟩ => ⟨S17x256x256, .f32⟩
  | .local _ .vmem, ⟨4, _⟩ => ⟨S256x16x256, .f32⟩
  | .local _ .vmem, ⟨5, _⟩ => ⟨S256x16x256, .f32⟩
  | .local _ .vmem, ⟨6, _⟩ => ⟨S17x256x256, .f32⟩
  | .local _ .vmem, ⟨7, _⟩ => ⟨S17x256x256, .f32⟩
  | .local _ .smem, ⟨0, _⟩ => ⟨S1, .f32⟩
  | _, _ => ⟨S4096x17x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S17x17x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S17x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S17x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x17x256 : Shape := ⟨3, ![4096, 17, 256]⟩
abbrev S4096x16x256 : Shape := ⟨3, ![4096, 16, 256]⟩
abbrev S4096x8x17x17 : Shape := ⟨4, ![4096, 8, 17, 17]⟩
abbrev S1 : Shape := ⟨1, ![1]⟩
abbrev S_ : Shape := ⟨0, ![]⟩
abbrev S4096x17x17 : Shape := ⟨3, ![4096, 17, 17]⟩
abbrev S4096x17 : Shape := ⟨2, ![4096, 17]⟩
abbrev S4096x2 : Shape := ⟨2, ![4096, 2]⟩
abbrev S4096x1x256 : Shape := ⟨3, ![4096, 1, 256]⟩
abbrev S4096x256 : Shape := ⟨2, ![4096, 256]⟩
abbrev S4096x9x256 : Shape := ⟨3, ![4096, 9, 256]⟩
abbrev S4096x8x256 : Shape := ⟨3, ![4096, 8, 256]⟩
abbrev S4096x2x1 : Shape := ⟨3, ![4096, 2, 1]⟩
abbrev S1x1x1 : Shape := ⟨3, ![1, 1, 1]⟩
abbrev S4096x2x256 : Shape := ⟨3, ![4096, 2, 256]⟩

abbrev nBuf : Space → Nat
  | .hbm => 381
  | .vmem => 0
  | .smem => 0
  | _ => 0

abbrev hbmTy0_0 (i : Nat) : BufTy := match i % 128 with
  | 0 => ⟨S4096x17x256, .f32⟩
  | 1 => ⟨S4096x16x256, .f32⟩
  | 2 => ⟨S4096x8x17x17, .f32⟩
  | 3 => ⟨S1, .f32⟩
  | 4 => ⟨S_, .f32⟩
  | 5 => ⟨S4096x17x17, .f32⟩
  | 6 => ⟨S_, .f32⟩
  | 7 => ⟨S4096x17x17, .f32⟩
  | 8 => ⟨S4096x17x17, .f32⟩
  | 9 => ⟨S_, .f32⟩
  | 10 => ⟨S4096x17, .f32⟩
  | 11 => ⟨S4096x17, .f32⟩
  | 12 => ⟨S4096x17, .i32⟩
  | 13 => ⟨S4096x17, .f32⟩
  | 14 => ⟨S4096x17, .i32⟩
  | 15 => ⟨S4096x2, .i32⟩
  | 16 => ⟨S4096x1x256, .f32⟩
  | 17 => ⟨S4096x256, .f32⟩
  | 18 => ⟨S4096x1x256, .f32⟩
  | 19 => ⟨S4096x256, .f32⟩
  | 20 => ⟨S4096x1x256, .f32⟩
  | 21 => ⟨S4096x256, .f32⟩
  | 22 => ⟨S_, .f32⟩
  | 23 => ⟨S4096x256, .f32⟩
  | 24 => ⟨S4096x256, .f32⟩
  | 25 => ⟨S4096x256, .f32⟩
  | 26 => ⟨S4096x1x256, .f32⟩
  | 27 => ⟨S4096x256, .f32⟩
  | 28 => ⟨S4096x1x256, .f32⟩
  | 29 => ⟨S4096x256, .f32⟩
  | 30 => ⟨S_, .f32⟩
  | 31 => ⟨S4096x256, .f32⟩
  | 32 => ⟨S4096x256, .f32⟩
  | 33 => ⟨S4096x256, .f32⟩
  | 34 => ⟨S4096x1x256, .f32⟩
  | 35 => ⟨S4096x256, .f32⟩
  | 36 => ⟨S4096x1x256, .f32⟩
  | 37 => ⟨S4096x256, .f32⟩
  | 38 => ⟨S_, .f32⟩
  | 39 => ⟨S4096x256, .f32⟩
  | 40 => ⟨S4096x256, .f32⟩
  | 41 => ⟨S4096x256, .f32⟩
  | 42 => ⟨S4096x1x256, .f32⟩
  | 43 => ⟨S4096x256, .f32⟩
  | 44 => ⟨S4096x1x256, .f32⟩
  | 45 => ⟨S4096x256, .f32⟩
  | 46 => ⟨S_, .f32⟩
  | 47 => ⟨S4096x256, .f32⟩
  | 48 => ⟨S4096x256, .f32⟩
  | 49 => ⟨S4096x256, .f32⟩
  | 50 => ⟨S4096x1x256, .f32⟩
  | 51 => ⟨S4096x256, .f32⟩
  | 52 => ⟨S4096x1x256, .f32⟩
  | 53 => ⟨S4096x256, .f32⟩
  | 54 => ⟨S_, .f32⟩
  | 55 => ⟨S4096x256, .f32⟩
  | 56 => ⟨S4096x256, .f32⟩
  | 57 => ⟨S4096x256, .f32⟩
  | 58 => ⟨S4096x1x256, .f32⟩
  | 59 => ⟨S4096x256, .f32⟩
  | 60 => ⟨S4096x1x256, .f32⟩
  | 61 => ⟨S4096x256, .f32⟩
  | 62 => ⟨S_, .f32⟩
  | 63 => ⟨S4096x256, .f32⟩
  | 64 => ⟨S4096x256, .f32⟩
  | 65 => ⟨S4096x256, .f32⟩
  | 66 => ⟨S4096x1x256, .f32⟩
  | 67 => ⟨S4096x256, .f32⟩
  | 68 => ⟨S4096x1x256, .f32⟩
  | 69 => ⟨S4096x256, .f32⟩
  | 70 => ⟨S_, .f32⟩
  | 71 => ⟨S4096x256, .f32⟩
  | 72 => ⟨S4096x256, .f32⟩
  | 73 => ⟨S4096x256, .f32⟩
  | 74 => ⟨S4096x1x256, .f32⟩
  | 75 => ⟨S4096x256, .f32⟩
  | 76 => ⟨S4096x1x256, .f32⟩
  | 77 => ⟨S4096x256, .f32⟩
  | 78 => ⟨S_, .f32⟩
  | 79 => ⟨S4096x256, .f32⟩
  | 80 => ⟨S4096x256, .f32⟩
  | 81 => ⟨S4096x256, .f32⟩
  | 82 => ⟨S4096x1x256, .f32⟩
  | 83 => ⟨S4096x256, .f32⟩
  | 84 => ⟨S4096x1x256, .f32⟩
  | 85 => ⟨S4096x256, .f32⟩
  | 86 => ⟨S_, .f32⟩
  | 87 => ⟨S4096x256, .f32⟩
  | 88 => ⟨S4096x256, .f32⟩
  | 89 => ⟨S4096x256, .f32⟩
  | 90 => ⟨S4096x1x256, .f32⟩
  | 91 => ⟨S4096x256, .f32⟩
  | 92 => ⟨S4096x1x256, .f32⟩
  | 93 => ⟨S4096x256, .f32⟩
  | 94 => ⟨S_, .f32⟩
  | 95 => ⟨S4096x256, .f32⟩
  | 96 => ⟨S4096x256, .f32⟩
  | 97 => ⟨S4096x256, .f32⟩
  | 98 => ⟨S4096x1x256, .f32⟩
  | 99 => ⟨S4096x256, .f32⟩
  | 100 => ⟨S4096x1x256, .f32⟩
  | 101 => ⟨S4096x256, .f32⟩
  | 102 => ⟨S_, .f32⟩
  | 103 => ⟨S4096x256, .f32⟩
  | 104 => ⟨S4096x256, .f32⟩
  | 105 => ⟨S4096x256, .f32⟩
  | 106 => ⟨S4096x1x256, .f32⟩
  | 107 => ⟨S4096x256, .f32⟩
  | 108 => ⟨S4096x1x256, .f32⟩
  | 109 => ⟨S4096x256, .f32⟩
  | 110 => ⟨S_, .f32⟩
  | 111 => ⟨S4096x256, .f32⟩
  | 112 => ⟨S4096x256, .f32⟩
  | 113 => ⟨S4096x256, .f32⟩
  | 114 => ⟨S4096x1x256, .f32⟩
  | 115 => ⟨S4096x256, .f32⟩
  | 116 => ⟨S4096x1x256, .f32⟩
  | 117 => ⟨S4096x256, .f32⟩
  | 118 => ⟨S_, .f32⟩
  | 119 => ⟨S4096x256, .f32⟩
  | 120 => ⟨S4096x256, .f32⟩
  | 121 => ⟨S4096x256, .f32⟩
  | 122 => ⟨S4096x1x256, .f32⟩
  | 123 => ⟨S4096x256, .f32⟩
  | 124 => ⟨S4096x1x256, .f32⟩
  | 125 => ⟨S4096x256, .f32⟩
  | 126 => ⟨S_, .f32⟩
  | 127 => ⟨S4096x256, .f32⟩
  | _ => ⟨S4096x17x256, .f32⟩

abbrev hbmTy0_1 (i : Nat) : BufTy := match i % 128 with
  | 0 => ⟨S4096x256, .f32⟩
  | 1 => ⟨S4096x256, .f32⟩
  | 2 => ⟨S4096x1x256, .f32⟩
  | 3 => ⟨S4096x256, .f32⟩
  | 4 => ⟨S4096x1x256, .f32⟩
  | 5 => ⟨S4096x256, .f32⟩
  | 6 => ⟨S_, .f32⟩
  | 7 => ⟨S4096x256, .f32⟩
  | 8 => ⟨S4096x256, .f32⟩
  | 9 => ⟨S4096x256, .f32⟩
  | 10 => ⟨S4096x1x256, .f32⟩
  | 11 => ⟨S4096x256, .f32⟩
  | 12 => ⟨S4096x1x256, .f32⟩
  | 13 => ⟨S4096x256, .f32⟩
  | 14 => ⟨S_, .f32⟩
  | 15 => ⟨S4096x256, .f32⟩
  | 16 => ⟨S4096x256, .f32⟩
  | 17 => ⟨S4096x256, .f32⟩
  | 18 => ⟨S4096x1x256, .f32⟩
  | 19 => ⟨S4096x1x256, .f32⟩
  | 20 => ⟨S4096x1x256, .f32⟩
  | 21 => ⟨S4096x1x256, .f32⟩
  | 22 => ⟨S4096x1x256, .f32⟩
  | 23 => ⟨S4096x1x256, .f32⟩
  | 24 => ⟨S4096x1x256, .f32⟩
  | 25 => ⟨S4096x1x256, .f32⟩
  | 26 => ⟨S4096x1x256, .f32⟩
  | 27 => ⟨S4096x9x256, .f32⟩
  | 28 => ⟨S4096x1x256, .f32⟩
  | 29 => ⟨S4096x1x256, .f32⟩
  | 30 => ⟨S4096x1x256, .f32⟩
  | 31 => ⟨S4096x1x256, .f32⟩
  | 32 => ⟨S4096x1x256, .f32⟩
  | 33 => ⟨S4096x1x256, .f32⟩
  | 34 => ⟨S4096x1x256, .f32⟩
  | 35 => ⟨S4096x1x256, .f32⟩
  | 36 => ⟨S4096x8x256, .f32⟩
  | 37 => ⟨S4096x17x256, .f32⟩
  | 38 => ⟨S4096x2x1, .i32⟩
  | 39 => ⟨S_, .i32⟩
  | 40 => ⟨S4096x2x1, .i32⟩
  | 41 => ⟨S4096x2x1, .i1⟩
  | 42 => ⟨S_, .i32⟩
  | 43 => ⟨S4096x2x1, .i32⟩
  | 44 => ⟨S4096x2x1, .i32⟩
  | 45 => ⟨S4096x2x1, .i32⟩
  | 46 => ⟨S1, .i32⟩
  | 47 => ⟨S_, .i32⟩
  | 48 => ⟨S4096x2x1, .i32⟩
  | 49 => ⟨S4096x2x1, .i1⟩
  | 50 => ⟨S1x1x1, .i32⟩
  | 51 => ⟨S4096x2x1, .i32⟩
  | 52 => ⟨S4096x2x1, .i1⟩
  | 53 => ⟨S4096x2x1, .i1⟩
  | 54 => ⟨S_, .i1⟩
  | 55 => ⟨S4096x2, .i1⟩
  | 56 => ⟨S4096x2x256, .f32⟩
  | 57 => ⟨S4096x2x256, .i1⟩
  | 58 => ⟨S_, .f32⟩
  | 59 => ⟨S4096x2x256, .f32⟩
  | 60 => ⟨S4096x2x256, .f32⟩
  | 61 => ⟨S_, .f32⟩
  | 62 => ⟨S4096x256, .f32⟩
  | 63 => ⟨S_, .f32⟩
  | 64 => ⟨S4096x256, .f32⟩
  | 65 => ⟨S4096x256, .f32⟩
  | 66 => ⟨S4096x1x256, .f32⟩
  | 67 => ⟨S_, .f32⟩
  | 68 => ⟨S4096x17x256, .f32⟩
  | 69 => ⟨S4096x256, .f32⟩
  | 70 => ⟨S_, .i32⟩
  | 71 => ⟨S1, .i32⟩
  | 72 => ⟨S4096x17x256, .f32⟩
  | 73 => ⟨S4096x1x256, .f32⟩
  | 74 => ⟨S4096x256, .f32⟩
  | 75 => ⟨S4096x1x256, .f32⟩
  | 76 => ⟨S4096x256, .f32⟩
  | 77 => ⟨S_, .f32⟩
  | 78 => ⟨S4096x256, .f32⟩
  | 79 => ⟨S4096x256, .f32⟩
  | 80 => ⟨S4096x256, .f32⟩
  | 81 => ⟨S_, .i32⟩
  | 82 => ⟨S1, .i32⟩
  | 83 => ⟨S4096x17x256, .f32⟩
  | 84 => ⟨S4096x1x256, .f32⟩
  | 85 => ⟨S4096x256, .f32⟩
  | 86 => ⟨S4096x1x256, .f32⟩
  | 87 => ⟨S4096x256, .f32⟩
  | 88 => ⟨S_, .f32⟩
  | 89 => ⟨S4096x256, .f32⟩
  | 90 => ⟨S4096x256, .f32⟩
  | 91 => ⟨S4096x256, .f32⟩
  | 92 => ⟨S_, .i32⟩
  | 93 => ⟨S1, .i32⟩
  | 94 => ⟨S4096x17x256, .f32⟩
  | 95 => ⟨S4096x1x256, .f32⟩
  | 96 => ⟨S4096x256, .f32⟩
  | 97 => ⟨S4096x1x256, .f32⟩
  | 98 => ⟨S4096x256, .f32⟩
  | 99 => ⟨S_, .f32⟩
  | 100 => ⟨S4096x256, .f32⟩
  | 101 => ⟨S4096x256, .f32⟩
  | 102 => ⟨S4096x256, .f32⟩
  | 103 => ⟨S_, .i32⟩
  | 104 => ⟨S1, .i32⟩
  | 105 => ⟨S4096x17x256, .f32⟩
  | 106 => ⟨S4096x1x256, .f32⟩
  | 107 => ⟨S4096x256, .f32⟩
  | 108 => ⟨S4096x1x256, .f32⟩
  | 109 => ⟨S4096x256, .f32⟩
  | 110 => ⟨S_, .f32⟩
  | 111 => ⟨S4096x256, .f32⟩
  | 112 => ⟨S4096x256, .f32⟩
  | 113 => ⟨S4096x256, .f32⟩
  | 114 => ⟨S_, .i32⟩
  | 115 => ⟨S1, .i32⟩
  | 116 => ⟨S4096x17x256, .f32⟩
  | 117 => ⟨S4096x1x256, .f32⟩
  | 118 => ⟨S4096x256, .f32⟩
  | 119 => ⟨S4096x1x256, .f32⟩
  | 120 => ⟨S4096x256, .f32⟩
  | 121 => ⟨S_, .f32⟩
  | 122 => ⟨S4096x256, .f32⟩
  | 123 => ⟨S4096x256, .f32⟩
  | 124 => ⟨S4096x256, .f32⟩
  | 125 => ⟨S_, .i32⟩
  | 126 => ⟨S1, .i32⟩
  | 127 => ⟨S4096x17x256, .f32⟩
  | _ => ⟨S4096x17x256, .f32⟩

abbrev hbmTy0_2 (i : Nat) : BufTy := match i % 128 with
  | 0 => ⟨S4096x1x256, .f32⟩
  | 1 => ⟨S4096x256, .f32⟩
  | 2 => ⟨S4096x1x256, .f32⟩
  | 3 => ⟨S4096x256, .f32⟩
  | 4 => ⟨S_, .f32⟩
  | 5 => ⟨S4096x256, .f32⟩
  | 6 => ⟨S4096x256, .f32⟩
  | 7 => ⟨S4096x256, .f32⟩
  | 8 => ⟨S_, .i32⟩
  | 9 => ⟨S1, .i32⟩
  | 10 => ⟨S4096x17x256, .f32⟩
  | 11 => ⟨S4096x1x256, .f32⟩
  | 12 => ⟨S4096x256, .f32⟩
  | 13 => ⟨S4096x1x256, .f32⟩
  | 14 => ⟨S4096x256, .f32⟩
  | 15 => ⟨S_, .f32⟩
  | 16 => ⟨S4096x256, .f32⟩
  | 17 => ⟨S4096x256, .f32⟩
  | 18 => ⟨S4096x256, .f32⟩
  | 19 => ⟨S_, .i32⟩
  | 20 => ⟨S1, .i32⟩
  | 21 => ⟨S4096x17x256, .f32⟩
  | 22 => ⟨S4096x1x256, .f32⟩
  | 23 => ⟨S4096x256, .f32⟩
  | 24 => ⟨S4096x1x256, .f32⟩
  | 25 => ⟨S4096x256, .f32⟩
  | 26 => ⟨S_, .f32⟩
  | 27 => ⟨S4096x256, .f32⟩
  | 28 => ⟨S4096x256, .f32⟩
  | 29 => ⟨S4096x256, .f32⟩
  | 30 => ⟨S_, .i32⟩
  | 31 => ⟨S1, .i32⟩
  | 32 => ⟨S4096x17x256, .f32⟩
  | 33 => ⟨S4096x1x256, .f32⟩
  | 34 => ⟨S4096x256, .f32⟩
  | 35 => ⟨S4096x1x256, .f32⟩
  | 36 => ⟨S4096x256, .f32⟩
  | 37 => ⟨S_, .f32⟩
  | 38 => ⟨S4096x256, .f32⟩
  | 39 => ⟨S4096x256, .f32⟩
  | 40 => ⟨S4096x256, .f32⟩
  | 41 => ⟨S_, .i32⟩
  | 42 => ⟨S1, .i32⟩
  | 43 => ⟨S4096x17x256, .f32⟩
  | 44 => ⟨S4096x1x256, .f32⟩
  | 45 => ⟨S4096x256, .f32⟩
  | 46 => ⟨S4096x1x256, .f32⟩
  | 47 => ⟨S4096x256, .f32⟩
  | 48 => ⟨S_, .f32⟩
  | 49 => ⟨S4096x256, .f32⟩
  | 50 => ⟨S4096x256, .f32⟩
  | 51 => ⟨S4096x256, .f32⟩
  | 52 => ⟨S_, .i32⟩
  | 53 => ⟨S1, .i32⟩
  | 54 => ⟨S4096x17x256, .f32⟩
  | 55 => ⟨S4096x1x256, .f32⟩
  | 56 => ⟨S4096x256, .f32⟩
  | 57 => ⟨S4096x1x256, .f32⟩
  | 58 => ⟨S4096x256, .f32⟩
  | 59 => ⟨S_, .f32⟩
  | 60 => ⟨S4096x256, .f32⟩
  | 61 => ⟨S4096x256, .f32⟩
  | 62 => ⟨S4096x256, .f32⟩
  | 63 => ⟨S_, .i32⟩
  | 64 => ⟨S1, .i32⟩
  | 65 => ⟨S4096x17x256, .f32⟩
  | 66 => ⟨S4096x1x256, .f32⟩
  | 67 => ⟨S4096x256, .f32⟩
  | 68 => ⟨S4096x1x256, .f32⟩
  | 69 => ⟨S4096x256, .f32⟩
  | 70 => ⟨S_, .f32⟩
  | 71 => ⟨S4096x256, .f32⟩
  | 72 => ⟨S4096x256, .f32⟩
  | 73 => ⟨S4096x256, .f32⟩
  | 74 => ⟨S_, .i32⟩
  | 75 => ⟨S1, .i32⟩
  | 76 => ⟨S4096x17x256, .f32⟩
  | 77 => ⟨S4096x1x256, .f32⟩
  | 78 => ⟨S4096x256, .f32⟩
  | 79 => ⟨S4096x1x256, .f32⟩
  | 80 => ⟨S4096x256, .f32⟩
  | 81 => ⟨S_, .f32⟩
  | 82 => ⟨S4096x256, .f32⟩
  | 83 => ⟨S4096x256, .f32⟩
  | 84 => ⟨S4096x256, .f32⟩
  | 85 => ⟨S_, .i32⟩
  | 86 => ⟨S1, .i32⟩
  | 87 => ⟨S4096x17x256, .f32⟩
  | 88 => ⟨S4096x1x256, .f32⟩
  | 89 => ⟨S4096x256, .f32⟩
  | 90 => ⟨S4096x1x256, .f32⟩
  | 91 => ⟨S4096x256, .f32⟩
  | 92 => ⟨S_, .f32⟩
  | 93 => ⟨S4096x256, .f32⟩
  | 94 => ⟨S4096x256, .f32⟩
  | 95 => ⟨S4096x256, .f32⟩
  | 96 => ⟨S_, .i32⟩
  | 97 => ⟨S1, .i32⟩
  | 98 => ⟨S4096x17x256, .f32⟩
  | 99 => ⟨S4096x1x256, .f32⟩
  | 100 => ⟨S4096x256, .f32⟩
  | 101 => ⟨S4096x1x256, .f32⟩
  | 102 => ⟨S4096x256, .f32⟩
  | 103 => ⟨S_, .f32⟩
  | 104 => ⟨S4096x256, .f32⟩
  | 105 => ⟨S4096x256, .f32⟩
  | 106 => ⟨S4096x256, .f32⟩
  | 107 => ⟨S_, .i32⟩
  | 108 => ⟨S1, .i32⟩
  | 109 => ⟨S4096x17x256, .f32⟩
  | 110 => ⟨S4096x1x256, .f32⟩
  | 111 => ⟨S4096x256, .f32⟩
  | 112 => ⟨S4096x1x256, .f32⟩
  | 113 => ⟨S4096x256, .f32⟩
  | 114 => ⟨S_, .f32⟩
  | 115 => ⟨S4096x256, .f32⟩
  | 116 => ⟨S4096x256, .f32⟩
  | 117 => ⟨S4096x256, .f32⟩
  | 118 => ⟨S_, .i32⟩
  | 119 => ⟨S1, .i32⟩
  | 120 => ⟨S4096x17x256, .f32⟩
  | 121 => ⟨S1x1x1, .f32⟩
  | 122 => ⟨S4096x17x256, .f32⟩
  | 123 => ⟨S4096x17x256, .f32⟩
  | 124 => ⟨S4096x17x256, .f32⟩
  | _ => ⟨S4096x17x256, .f32⟩

abbrev hbmTy (i : Nat) : BufTy := match i / 128 with
  | 0 => hbmTy0_0 i
  | 1 => hbmTy0_1 i
  | 2 => hbmTy0_2 i
  | _ => ⟨S4096x17x256, .f32⟩

abbrev bufTy : (tb : Table) → Fin (tcTables nBuf tb) → BufTy
  | .hbm, ⟨i, _⟩ => hbmTy i
  | _, _ => ⟨S4096x17x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_9 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_10 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_11 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_12 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_cst_13 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_cst_14 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_cst_15 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_cst_16 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_cst_17 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_call1_c : Ref sig .tc := ⟨.hbm, 167, rfl⟩
abbrev main_call1_v0 : Ref sig .tc := ⟨.hbm, 168, rfl⟩
abbrev main_call1_v1 : Ref sig .tc := ⟨.hbm, 169, rfl⟩
abbrev main_call1_c_0 : Ref sig .tc := ⟨.hbm, 170, rfl⟩
abbrev main_call1_v2 : Ref sig .tc := ⟨.hbm, 171, rfl⟩
abbrev main_call1_v3 : Ref sig .tc := ⟨.hbm, 172, rfl⟩
abbrev main_call1_v4 : Ref sig .tc := ⟨.hbm, 173, rfl⟩
abbrev main_call1_c_1 : Ref sig .tc := ⟨.hbm, 174, rfl⟩
abbrev main_call1_c_2 : Ref sig .tc := ⟨.hbm, 175, rfl⟩
abbrev main_call1_v5 : Ref sig .tc := ⟨.hbm, 176, rfl⟩
abbrev main_call1_v6 : Ref sig .tc := ⟨.hbm, 177, rfl⟩
abbrev main_call1_v7 : Ref sig .tc := ⟨.hbm, 178, rfl⟩
abbrev main_call1_v8 : Ref sig .tc := ⟨.hbm, 179, rfl⟩
abbrev main_call1_v9 : Ref sig .tc := ⟨.hbm, 180, rfl⟩
abbrev main_call1_v10 : Ref sig .tc := ⟨.hbm, 181, rfl⟩
abbrev main_call1_c_3 : Ref sig .tc := ⟨.hbm, 182, rfl⟩
abbrev main_call1_v11 : Ref sig .tc := ⟨.hbm, 183, rfl⟩
abbrev main_call1_v12 : Ref sig .tc := ⟨.hbm, 184, rfl⟩
abbrev main_call1_v13 : Ref sig .tc := ⟨.hbm, 185, rfl⟩
abbrev main_call1_cst : Ref sig .tc := ⟨.hbm, 186, rfl⟩
abbrev main_call1_v14 : Ref sig .tc := ⟨.hbm, 187, rfl⟩
abbrev main_v142 : Ref sig .tc := ⟨.hbm, 188, rfl⟩
abbrev main_cst_18 : Ref sig .tc := ⟨.hbm, 189, rfl⟩
abbrev main_v143 : Ref sig .tc := ⟨.hbm, 190, rfl⟩
abbrev main_cst_19 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_cst_20 : Ref sig .tc := ⟨.hbm, 195, rfl⟩
abbrev main_v147 : Ref sig .tc := ⟨.hbm, 196, rfl⟩
abbrev main_v148 : Ref sig .tc := ⟨.hbm, 197, rfl⟩
abbrev main_c : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_cst_21 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_c_22 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_cst_23 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_c_24 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_cst_25 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_c_26 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_cst_27 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_c_28 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_cst_29 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_c_30 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_cst_31 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_c_32 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_cst_33 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_c_34 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_cst_35 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_c_36 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_v226 : Ref sig .tc := ⟨.hbm, 292, rfl⟩
abbrev main_cst_37 : Ref sig .tc := ⟨.hbm, 293, rfl⟩
abbrev main_v227 : Ref sig .tc := ⟨.hbm, 294, rfl⟩
abbrev main_v228 : Ref sig .tc := ⟨.hbm, 295, rfl⟩
abbrev main_v229 : Ref sig .tc := ⟨.hbm, 296, rfl⟩
abbrev main_c_38 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_v234 : Ref sig .tc := ⟨.hbm, 302, rfl⟩
abbrev main_v235 : Ref sig .tc := ⟨.hbm, 303, rfl⟩
abbrev main_cst_39 : Ref sig .tc := ⟨.hbm, 304, rfl⟩
abbrev main_v236 : Ref sig .tc := ⟨.hbm, 305, rfl⟩
abbrev main_v237 : Ref sig .tc := ⟨.hbm, 306, rfl⟩
abbrev main_v238 : Ref sig .tc := ⟨.hbm, 307, rfl⟩
abbrev main_c_40 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩
abbrev main_v244 : Ref sig .tc := ⟨.hbm, 314, rfl⟩
abbrev main_cst_41 : Ref sig .tc := ⟨.hbm, 315, rfl⟩
abbrev main_v245 : Ref sig .tc := ⟨.hbm, 316, rfl⟩
abbrev main_v246 : Ref sig .tc := ⟨.hbm, 317, rfl⟩
abbrev main_v247 : Ref sig .tc := ⟨.hbm, 318, rfl⟩
abbrev main_c_42 : Ref sig .tc := ⟨.hbm, 319, rfl⟩
abbrev main_v248 : Ref sig .tc := ⟨.hbm, 320, rfl⟩
abbrev main_v249 : Ref sig .tc := ⟨.hbm, 321, rfl⟩
abbrev main_v250 : Ref sig .tc := ⟨.hbm, 322, rfl⟩
abbrev main_v251 : Ref sig .tc := ⟨.hbm, 323, rfl⟩
abbrev main_v252 : Ref sig .tc := ⟨.hbm, 324, rfl⟩
abbrev main_v253 : Ref sig .tc := ⟨.hbm, 325, rfl⟩
abbrev main_cst_43 : Ref sig .tc := ⟨.hbm, 326, rfl⟩
abbrev main_v254 : Ref sig .tc := ⟨.hbm, 327, rfl⟩
abbrev main_v255 : Ref sig .tc := ⟨.hbm, 328, rfl⟩
abbrev main_v256 : Ref sig .tc := ⟨.hbm, 329, rfl⟩
abbrev main_c_44 : Ref sig .tc := ⟨.hbm, 330, rfl⟩
abbrev main_v257 : Ref sig .tc := ⟨.hbm, 331, rfl⟩
abbrev main_v258 : Ref sig .tc := ⟨.hbm, 332, rfl⟩
abbrev main_v259 : Ref sig .tc := ⟨.hbm, 333, rfl⟩
abbrev main_v260 : Ref sig .tc := ⟨.hbm, 334, rfl⟩
abbrev main_v261 : Ref sig .tc := ⟨.hbm, 335, rfl⟩
abbrev main_v262 : Ref sig .tc := ⟨.hbm, 336, rfl⟩
abbrev main_cst_45 : Ref sig .tc := ⟨.hbm, 337, rfl⟩
abbrev main_v263 : Ref sig .tc := ⟨.hbm, 338, rfl⟩
abbrev main_v264 : Ref sig .tc := ⟨.hbm, 339, rfl⟩
abbrev main_v265 : Ref sig .tc := ⟨.hbm, 340, rfl⟩
abbrev main_c_46 : Ref sig .tc := ⟨.hbm, 341, rfl⟩
abbrev main_v266 : Ref sig .tc := ⟨.hbm, 342, rfl⟩
abbrev main_v267 : Ref sig .tc := ⟨.hbm, 343, rfl⟩
abbrev main_v268 : Ref sig .tc := ⟨.hbm, 344, rfl⟩
abbrev main_v269 : Ref sig .tc := ⟨.hbm, 345, rfl⟩
abbrev main_v270 : Ref sig .tc := ⟨.hbm, 346, rfl⟩
abbrev main_v271 : Ref sig .tc := ⟨.hbm, 347, rfl⟩
abbrev main_cst_47 : Ref sig .tc := ⟨.hbm, 348, rfl⟩
abbrev main_v272 : Ref sig .tc := ⟨.hbm, 349, rfl⟩
abbrev main_v273 : Ref sig .tc := ⟨.hbm, 350, rfl⟩
abbrev main_v274 : Ref sig .tc := ⟨.hbm, 351, rfl⟩
abbrev main_c_48 : Ref sig .tc := ⟨.hbm, 352, rfl⟩
abbrev main_v275 : Ref sig .tc := ⟨.hbm, 353, rfl⟩
abbrev main_v276 : Ref sig .tc := ⟨.hbm, 354, rfl⟩
abbrev main_v277 : Ref sig .tc := ⟨.hbm, 355, rfl⟩
abbrev main_v278 : Ref sig .tc := ⟨.hbm, 356, rfl⟩
abbrev main_v279 : Ref sig .tc := ⟨.hbm, 357, rfl⟩
abbrev main_v280 : Ref sig .tc := ⟨.hbm, 358, rfl⟩
abbrev main_cst_49 : Ref sig .tc := ⟨.hbm, 359, rfl⟩
abbrev main_v281 : Ref sig .tc := ⟨.hbm, 360, rfl⟩
abbrev main_v282 : Ref sig .tc := ⟨.hbm, 361, rfl⟩
abbrev main_v283 : Ref sig .tc := ⟨.hbm, 362, rfl⟩
abbrev main_c_50 : Ref sig .tc := ⟨.hbm, 363, rfl⟩
abbrev main_v284 : Ref sig .tc := ⟨.hbm, 364, rfl⟩
abbrev main_v285 : Ref sig .tc := ⟨.hbm, 365, rfl⟩
abbrev main_v286 : Ref sig .tc := ⟨.hbm, 366, rfl⟩
abbrev main_v287 : Ref sig .tc := ⟨.hbm, 367, rfl⟩
abbrev main_v288 : Ref sig .tc := ⟨.hbm, 368, rfl⟩
abbrev main_v289 : Ref sig .tc := ⟨.hbm, 369, rfl⟩
abbrev main_cst_51 : Ref sig .tc := ⟨.hbm, 370, rfl⟩
abbrev main_v290 : Ref sig .tc := ⟨.hbm, 371, rfl⟩
abbrev main_v291 : Ref sig .tc := ⟨.hbm, 372, rfl⟩
abbrev main_v292 : Ref sig .tc := ⟨.hbm, 373, rfl⟩
abbrev main_c_52 : Ref sig .tc := ⟨.hbm, 374, rfl⟩
abbrev main_v293 : Ref sig .tc := ⟨.hbm, 375, rfl⟩
abbrev main_v294 : Ref sig .tc := ⟨.hbm, 376, rfl⟩
abbrev main_v295 : Ref sig .tc := ⟨.hbm, 377, rfl⟩
abbrev main_v296 : Ref sig .tc := ⟨.hbm, 378, rfl⟩
abbrev main_v297 : Ref sig .tc := ⟨.hbm, 379, rfl⟩
abbrev main_v298 : Ref sig .tc := ⟨.hbm, 380, rfl⟩

abbrev nD : Nat := 1
abbrev τ : Topo := Topo.v7x

variable {F : FTy → Type} [FloatOps F]
-- ==== Proof.Top2.lean ====
/- The two best entries of a finite family of extended reals: what "the first greatest" means, that there is one at
   most, that a stable sort by a falling key lists it first and the runner-up second, and that the maximum followed by
   the least index attaining it is that entry. -/
module

public import Idealize.ShloMosaic.Lib.SortFacts
public import Idealize.ShloMosaic.Lib.Pointwise
public import Idealize.ShloMosaic.Lib.IdealHost

@[expose] public section

noncomputable section

namespace TreeTop

open Idealize.ShloMosaic

/-- `p` is the first greatest entry of `s` among the positions allowed by `ok`: it is allowed, and every other
    allowed position holds less, or as much and stands later. -/
def Best {n : ℕ} (s : Fin n → EReal) (ok : Fin n → Prop) (p : Fin n) : Prop :=
  ok p ∧ ∀ q, ok q → q ≠ p → s q < s p ∨ (s q = s p ∧ p < q)

/-- There is at most one first greatest entry. -/
theorem Best.unique {n : ℕ} {s : Fin n → EReal} {ok : Fin n → Prop} {p q : Fin n} (hp : Best s ok p)
    (hq : Best s ok q) : p = q := by
  by_contra hne
  rcases hp.2 q hq.1 (Ne.symm hne) with h | ⟨h, h'⟩ <;> rcases hq.2 p hp.1 hne with g | ⟨g, g'⟩
  · exact absurd (h.trans g) (lt_irrefl _)
  · rw [g] at h; exact absurd h (lt_irrefl _)
  · rw [h] at g; exact absurd g (lt_irrefl _)
  · exact absurd (h'.trans g') (lt_irrefl _)

/-- The first greatest entry is at least every allowed entry. -/
theorem Best.le {n : ℕ} {s : Fin n → EReal} {ok : Fin n → Prop} {p : Fin n} (hp : Best s ok p) (q : Fin n)
    (hq : ok q) : s q ≤ s p := by
  by_cases h : q = p
  · rw [h]
  · rcases hp.2 q hq h with h | h
    · exact h.le
    · exact h.1.le

/-! ## The stable sort -/

/-- The order in which a stable sort by the key `k` lists the positions: by key, and by position among equal keys. -/
def Listed {n : ℕ} (k : Fin n → EReal) (a b : Fin n) : Prop := k a < k b ∨ (k a = k b ∧ a < b)

/-- Inserting a position that stands before all the others keeps a list in that order. -/
theorem listed_insert {n : ℕ} (k : Fin n → EReal) (a : Fin n) (l : List (Fin n)) (ha : ∀ b ∈ l, a < b)
    (hl : l.Pairwise (Listed k)) :
    (insertBefore (fun x y => decide (k x < k y)) a l).Pairwise (Listed k) := by
  induction l with
  | nil => exact List.pairwise_singleton _ _
  | cons b l ih =>
    rw [List.pairwise_cons] at hl
    unfold insertBefore
    split
    · next h =>
      rw [List.pairwise_cons]
      refine ⟨fun c hc => ?_, ih (fun c hc => ha c (List.mem_cons_of_mem _ hc)) hl.2⟩
      rcases List.mem_cons.1 ((perm_insertBefore _ a l).mem_iff.1 hc) with rfl | hc
      · exact Or.inl (of_decide_eq_true h)
      · exact hl.1 c hc
    · next h =>
      have hab : k a ≤ k b := not_lt.1 fun h' => h (decide_eq_true h')
      refine List.pairwise_cons.2 ⟨fun c hc => ?_, List.pairwise_cons.2 hl⟩
      have hac : k a ≤ k c := by
        rcases List.mem_cons.1 hc with rfl | hc
        · exact hab
        · rcases hl.1 c hc with h1 | h1
          · exact hab.trans h1.le
          · exact hab.trans h1.1.le
      rcases hac.lt_or_eq with h1 | h1
      · exact Or.inl h1
      · exact Or.inr ⟨h1, ha c hc⟩

/-- A stable sort of positions in rising order lists them by key and then by position. -/
theorem listed_sort {n : ℕ} (k : Fin n → EReal) (l : List (Fin n)) (hl : l.Pairwise (· < ·)) :
    (stableSort (fun x y => decide (k x < k y)) l).Pairwise (Listed k) := by
  induction l with
  | nil => exact List.Pairwise.nil
  | cons a l ih =>
    rw [List.pairwise_cons] at hl
    unfold stableSort
    exact listed_insert k a _ (fun b hb => hl.1 b ((perm_stableSort _ l).mem_iff.1 hb)) (ih hl.2)

/-- An earlier place of the sort holds a position listed earlier. -/
theorem listed_sorted {n : ℕ} (k : Fin n → EReal) (i j : Fin n) (hij : i < j) :
    Listed k (sortedFrom (fun x y => decide (k x < k y)) i) (sortedFrom (fun x y => decide (k x < k y)) j) := by
  have h := listed_sort k (List.finRange n) (List.pairwise_lt_finRange n)
  exact List.pairwise_iff_get.1 h _ _ hij

/-- The first place of a stable sort by a falling key is the first greatest entry. -/
theorem best_first {n : ℕ} (s k : Fin (n + 2) → EReal) (hk : ∀ a b, k a < k b ↔ s b < s a) :
    Best s (fun _ => True) (sortedFrom (fun x y => decide (k x < k y)) 0) := by
  refine ⟨trivial, fun q _ hq => ?_⟩
  obtain ⟨j, rfl⟩ := sortedFrom_surjective (fun x y => decide (k x < k y)) q
  have hj : (0 : Fin (n + 2)) < j := Fin.pos_iff_ne_zero.2 fun h => hq (by rw [h])
  rcases listed_sorted k 0 j hj with h | ⟨h, h'⟩
  · exact Or.inl ((hk _ _).1 h)
  · refine Or.inr ⟨le_antisymm ?_ ?_, h'⟩
    · exact not_lt.1 fun g => absurd ((hk _ _).2 g) (by rw [h]; exact lt_irrefl _)
    · exact not_lt.1 fun g => absurd ((hk _ _).2 g) (by rw [h]; exact lt_irrefl _)

/-- The second place of the sort is the first greatest entry among those that are not the first place's. -/
theorem best_second {n : ℕ} (s k : Fin (n + 2) → EReal) (hk : ∀ a b, k a < k b ↔ s b < s a) :
    Best s (fun q => q ≠ sortedFrom (fun x y => decide (k x < k y)) 0)
      (sortedFrom (fun x y => decide (k x < k y)) 1) := by
  refine ⟨fun h => absurd (sortedFrom_injective _ h) (by simp), fun q hq0 hq => ?_⟩
  obtain ⟨j, rfl⟩ := sortedFrom_surjective (fun x y => decide (k x < k y)) q
  have h0 : j ≠ 0 := fun h => hq0 (by rw [h])
  have h1 : j ≠ 1 := fun h => hq (by rw [h])
  have hj : (1 : Fin (n + 2)) < j := by
    rw [Fin.lt_def]
    have h0' : j.val ≠ 0 := fun h => h0 (Fin.ext h)
    have h1' : j.val ≠ 1 := fun h => h1 (Fin.ext (by simpa using h))
    have : (1 : Fin (n + 2)).val = 1 := by simp
    omega
  rcases listed_sorted k 1 j hj with h | ⟨h, h'⟩
  · exact Or.inl ((hk _ _).1 h)
  · refine Or.inr ⟨le_antisymm ?_ ?_, h'⟩
    · exact not_lt.1 fun g => absurd ((hk _ _).2 g) (by rw [h]; exact lt_irrefl _)
    · exact not_lt.1 fun g => absurd ((hk _ _).2 g) (by rw [h]; exact lt_irrefl _)

/-! ## The masked second round -/

/-- The first greatest among the positions other than `p` is the first greatest once `p`'s entry is lowered to `-∞`,
    when no other entry is `-∞` already. -/
theorem best_masked {n : ℕ} (s : Fin n → EReal) (p r : Fin n) (hs : ∀ a, s a ≠ ⊥) (h : Best s (fun a => a ≠ p) r) :
    Best (fun a => if a = p then ⊥ else s a) (fun _ => True) r := by
  refine ⟨trivial, fun q _ hq => ?_⟩
  simp only [if_neg h.1]
  by_cases hqp : q = p
  · rw [if_pos hqp]
    exact Or.inl (bot_lt_iff_ne_bot.2 (hs r))
  · rw [if_neg hqp]
    exact h.2 q hqp hq

/-! ## The maximum and the least index attaining it -/

/-- The running maximum from `-∞` is the greatest entry. -/
theorem fold_max_eq {n : ℕ} (s : Fin n → EReal) (p : Fin n) (hp : Best s (fun _ => True) p) :
    (Finset.univ : Finset (Fin n)).fold max ⊥ s = s p := by
  apply le_antisymm
  · rw [Finset.fold_max_le]
    exact ⟨bot_le, fun q _ => hp.le q trivial⟩
  · rw [Finset.le_fold_max]
    exact Or.inr ⟨p, Finset.mem_univ _, le_rfl⟩

/-- The signed minimum of two words is one of them, and at most each. -/
theorem minsi_cases (a b : BitVec 32) : (IntOp.minsi a b = a ∨ IntOp.minsi a b = b)
    ∧ (IntOp.minsi a b).toInt ≤ a.toInt ∧ (IntOp.minsi a b).toInt ≤ b.toInt := by
  unfold IntOp.minsi
  rw [BitVec.slt_eq_decide]
  split
  · next h => simp only [decide_eq_true_eq] at h; exact ⟨Or.inl rfl, le_rfl, h.le⟩
  · next h => simp only [decide_eq_true_eq] at h; exact ⟨Or.inr rfl, by omega, le_rfl⟩

/-- The running signed minimum is the start or one of the words, and at most each of them. -/
theorem fold_minsi {ι : Type} (w : BitVec 32) (f : ι → BitVec 32) (S : Finset ι) :
    (S.fold IntOp.minsi w f = w ∨ ∃ k ∈ S, S.fold IntOp.minsi w f = f k)
    ∧ ∀ k ∈ S, (S.fold IntOp.minsi w f).toInt ≤ (f k).toInt := by
  classical
  induction S using Finset.induction_on with
  | empty => exact ⟨Or.inl rfl, fun k hk => absurd hk (Finset.notMem_empty k)⟩
  | insert a S ha ih =>
    rw [Finset.fold_insert ha]
    obtain ⟨h1, h2, h3⟩ := minsi_cases (f a) (S.fold IntOp.minsi w f)
    refine ⟨?_, fun k hk => ?_⟩
    · rcases h1 with h | h
      · exact Or.inr ⟨a, Finset.mem_insert_self _ _, h⟩
      · rcases ih.1 with g | ⟨k, hk, g⟩
        · exact Or.inl (h.trans g)
        · exact Or.inr ⟨k, Finset.mem_insert_of_mem hk, h.trans g⟩
    · rcases Finset.mem_insert.1 hk with rfl | hk
      · exact h2
      · exact h3.trans (ih.2 k hk)

/-- A small number's word, read signed, is the number. -/
theorem toInt_small (x : ℕ) (hx : x < 100) : (BitVec.ofNat 32 x).toInt = x := by
  rw [BitVec.toInt_ofNat']
  simp only [Int.bmod]
  omega

/-- The least index at which the maximum is attained, found by a running signed minimum over the indices with 17 put
    where it is not attained, is the first greatest entry's. -/
theorem fold_first (s : Fin 17 → EReal) (p : Fin 17) (hp : Best s (fun _ => True) p) (f : Fin 17 → BitVec 32)
    (hf : ∀ k, f k = if s k = s p then BitVec.ofNat 32 k.val else 17#32) :
    (Finset.univ : Finset (Fin 17)).fold IntOp.minsi 2147483647#32 f = BitVec.ofNat 32 p.val := by
  obtain ⟨h1, h2⟩ := fold_minsi 2147483647#32 f (Finset.univ : Finset (Fin 17))
  set r := (Finset.univ : Finset (Fin 17)).fold IntOp.minsi 2147483647#32 f
  have hpr := h2 p (Finset.mem_univ _)
  have hfp : f p = BitVec.ofNat 32 p.val := by rw [hf, if_pos rfl]
  rw [hfp, toInt_small _ (by omega)] at hpr
  rcases h1 with h | ⟨k, _, h⟩
  · rw [h] at hpr
    have : (2147483647#32 : BitVec 32).toInt = 2147483647 := by decide
    omega
  · rw [hf] at h
    split at h
    · next hk =>
      by_cases hkp : k = p
      · rw [h, hkp]
      · exfalso
        rcases hp.2 k trivial hkp with g | ⟨_, g⟩
        · rw [hk] at g; exact lt_irrefl _ g
        · rw [h, toInt_small _ (by omega)] at hpr
          rw [Fin.lt_def] at g; omega
    · rw [h] at hpr
      have : (17#32 : BitVec 32).toInt = 17 := by decide
      omega

end TreeTop
-- ==== Proof.Spec.lean ====
/- The mathematics of the problem in plain terms: a node's score, the row a chosen node contributes, the propagation
   down the tree, and the few facts about the extended reals that join the two programs' ways of computing them. -/
module

public import proofs.«01_k».proof.Proof.Top2

@[expose] public section

noncomputable section

namespace TreeTop

open Idealize.ShloMosaic

/-- A node's score: the sum over all heads and all columns of its attention. -/
def score (a : Fin 8 → Fin 17 → Fin 17 → EReal) (i : Fin 17) : EReal := ∑ j : Fin 17, ∑ h : Fin 8, a h i j

/-- The row that node `i` contributes: the root's own point, or its root child's point moved by that child's vector. -/
def pick (p : Fin 17 → EReal) (v : Fin 16 → EReal) (i : Fin 17) : EReal :=
  if i.val < 1 then p 0 else if i.val < 4 then p 1 + v 0 else if i.val < 7 then p 4 - v 3 else p 7 + v 6

/-- The value propagated down the tree from the root's value `u`: an odd node is its parent less its vector, an even
    node its parent plus its vector. -/
def tree (u : EReal) (v : Fin 16 → EReal) (c : Fin 17) : EReal :=
  let n1 := u - v 0
  let n2 := n1 + v 1
  let n3 := n2 - v 2
  let n4 := u + v 3
  let n5 := n4 - v 4
  let n6 := n5 + v 5
  let n7 := u - v 6
  let n8 := n7 + v 7
  let n9 := n8 - v 8
  let n10 := n9 + v 9
  let n11 := n8 - v 10
  let n12 := n11 + v 11
  let n13 := n12 - v 12
  let n14 := n8 + v 13
  let n15 := n14 - v 14
  let n16 := n15 + v 15
  ![u, n1, n2, n3, n4, n5, n6, n7, n8, n9, n10, n11, n12, n13, n14, n15, n16] c

/-- The result at one node: the tree's value started from the mean of the rows that nodes `i` and `j` contribute,
    scaled by `f`, on top of the node's point. -/
def outcome (p : Fin 17 → EReal) (v : Fin 16 → EReal) (f : EReal) (i j c : Fin 17) : EReal :=
  tree ((pick p v i + pick p v j) * ((1 / 2 : ℝ) : EReal)) v c * f + p c

/-! ## The literals -/

/-- The word of the literal -1. -/
theorem lit_neg_one : Ideal.ofBits .f32 0xBF800000#32 = -1 := by
  rw [show (-1 : EReal) = ((-(1 : ℝ) : ℝ) : EReal) by simp]
  simp [Ideal.ofBits, Ideal.ieee, -EReal.coe_mul, -EReal.coe_neg]; norm_num

/-- The word of the literal 1/2. -/
theorem lit_half : Ideal.ofBits .f32 0x3F000000#32 = ((1 / 2 : ℝ) : EReal) := by
  simp [Ideal.ofBits, Ideal.ieee, -EReal.coe_mul]; norm_num

/-- The word of the literal 2. -/
theorem lit_two : Ideal.ofBits .f32 0x40000000#32 = ((2 : ℝ) : EReal) := by
  simp [Ideal.ofBits, Ideal.ieee, -EReal.coe_mul]; norm_num

/-- The word of the literal 8. -/
theorem lit_eight : Ideal.ofBits .f32 0x41000000#32 = ((8 : ℝ) : EReal) := by
  simp [Ideal.ofBits, Ideal.ieee, -EReal.coe_mul]; norm_num

/-- The word of minus infinity is the least extended real. -/
theorem lit_bot : Ideal.ofBits .f32 0xFF800000#32 = ⊥ := by
  simp [Ideal.ofBits, Ideal.ieee]

/-- Division by two is multiplication by a half. -/
theorem div_two (x : EReal) : Ideal.div x (Ideal.ofBits .f32 0x40000000#32) = x * ((1 / 2 : ℝ) : EReal) := by
  rw [lit_two]; unfold Ideal.div
  rw [if_neg (by norm_num), ← EReal.coe_inv]; norm_num

/-- Division by eight is multiplication by an eighth. -/
theorem div_eight (x : EReal) : Ideal.div x (Ideal.ofBits .f32 0x41000000#32) = x * ((1 / 8 : ℝ) : EReal) := by
  rw [lit_eight]; unfold Ideal.div
  rw [if_neg (by norm_num), ← EReal.coe_inv]; norm_num

/-! ## The scores -/

/-- A finite factor that is not negative may be taken out of a sum. -/
theorem sum_mul_coe {ι : Type} (S : Finset ι) (x : ι → EReal) (c : ℝ) (hc : 0 ≤ c) :
    ∑ k ∈ S, x k * (c : EReal) = (∑ k ∈ S, x k) * (c : EReal) := by
  classical
  induction S using Finset.induction_on with
  | empty => simp
  | insert a S ha ih =>
    rw [Finset.sum_insert ha, Finset.sum_insert ha, ih,
      EReal.right_distrib_of_nonneg_of_ne_top (by exact_mod_cast hc) (EReal.coe_ne_top c)]

/-- The negated mean over the heads, summed over the columns, orders the nodes by falling score. -/
theorem key_lt (x y : EReal) :
    -(x * ((1 / 8 : ℝ) : EReal)) < -(y * ((1 / 8 : ℝ) : EReal)) ↔ y < x := by
  have back : ∀ w : EReal, w * ((1 / 8 : ℝ) : EReal) * ((8 : ℝ) : EReal) = w := by
    intro w
    rw [mul_assoc, ← EReal.coe_mul, show (1 / 8 : ℝ) * 8 = 1 by norm_num, EReal.coe_one, mul_one]
  have h8 : (0 : EReal) ≤ ((1 / 8 : ℝ) : EReal) := by exact_mod_cast (by norm_num : (0 : ℝ) ≤ 1 / 8)
  have g8 : (0 : EReal) ≤ ((8 : ℝ) : EReal) := by exact_mod_cast (by norm_num : (0 : ℝ) ≤ 8)
  rw [EReal.neg_lt_neg_iff]
  constructor
  · intro h
    by_contra hxy
    exact absurd h (not_lt.2 (mul_le_mul_of_nonneg_right (not_lt.1 hxy) h8))
  · intro h
    by_contra hxy
    have := mul_le_mul_of_nonneg_right (not_lt.1 hxy) g8
    rw [back, back] at this
    exact absurd h (not_lt.2 this)

/-- A finite sum of extended reals none of which is `-∞` is not `-∞`. -/
theorem sum_ne_bot {ι : Type} (S : Finset ι) (x : ι → EReal) (h : ∀ k ∈ S, x k ≠ ⊥) : ∑ k ∈ S, x k ≠ ⊥ := by
  classical
  induction S using Finset.induction_on with
  | empty => simp
  | insert a S ha ih =>
    rw [Finset.sum_insert ha, ne_eq, EReal.add_eq_bot_iff, not_or]
    exact ⟨h a (Finset.mem_insert_self _ _), ih fun k hk => h k (Finset.mem_insert_of_mem hk)⟩

/-- A score is not `-∞` when no attention entry is. -/
theorem score_ne_bot (a : Fin 8 → Fin 17 → Fin 17 → EReal) (h : ∀ k i j, a k i j ≠ ⊥) (i : Fin 17) : score a i ≠ ⊥ :=
  sum_ne_bot _ _ fun _ _ => sum_ne_bot _ _ fun _ _ => h _ _ _

/-! ## The class weights -/

/-- How often node `i` belongs to the class of nodes from `lo` up to `hi`: once or not at all. -/
def ind (lo hi i : ℕ) : EReal := if lo ≤ i ∧ i ≤ hi then 1 else 0

/-- Weighting the four classes' rows by how many of the two chosen nodes each holds is adding the two nodes' rows. -/
theorem weights (p : Fin 17 → EReal) (v : Fin 16 → EReal) (i j : Fin 17) :
    (ind 0 0 i + ind 0 0 j) * p 0 + (ind 1 3 i + ind 1 3 j) * (p 1 + v 0) + (ind 4 6 i + ind 4 6 j) * (p 4 - v 3)
      + (ind 7 16 i + ind 7 16 j) * (p 7 + v 6) = pick p v i + pick p v j := by
  have two : ∀ x : EReal, (1 + 1) * x = x + x := by
    intro x
    rw [EReal.right_distrib_of_nonneg zero_le_one zero_le_one, one_mul]
  have cls : ∀ k : Fin 17, k.val < 1 ∨ (1 ≤ k.val ∧ k.val < 4) ∨ (4 ≤ k.val ∧ k.val < 7) ∨ 7 ≤ k.val := by
    intro k; omega
  have c0 : ∀ k : Fin 17, k.val < 1 → ind 0 0 k = 1 ∧ ind 1 3 k = 0 ∧ ind 4 6 k = 0 ∧ ind 7 16 k = 0 ∧ pick p v k = p 0 := by
    intro k hk
    refine ⟨if_pos (by omega), if_neg (by omega), if_neg (by omega), if_neg (by omega), if_pos (by omega)⟩
  have c1 : ∀ k : Fin 17, 1 ≤ k.val ∧ k.val < 4 →
      ind 0 0 k = 0 ∧ ind 1 3 k = 1 ∧ ind 4 6 k = 0 ∧ ind 7 16 k = 0 ∧ pick p v k = p 1 + v 0 := by
    intro k hk
    refine ⟨if_neg (by omega), if_pos (by omega), if_neg (by omega), if_neg (by omega), ?_⟩
    unfold pick; rw [if_neg (by omega), if_pos (by omega)]
  have c2 : ∀ k : Fin 17, 4 ≤ k.val ∧ k.val < 7 →
      ind 0 0 k = 0 ∧ ind 1 3 k = 0 ∧ ind 4 6 k = 1 ∧ ind 7 16 k = 0 ∧ pick p v k = p 4 - v 3 := by
    intro k hk
    refine ⟨if_neg (by omega), if_neg (by omega), if_pos (by omega), if_neg (by omega), ?_⟩
    unfold pick; rw [if_neg (by omega), if_neg (by omega), if_pos (by omega)]
  have c3 : ∀ k : Fin 17, 7 ≤ k.val →
      ind 0 0 k = 0 ∧ ind 1 3 k = 0 ∧ ind 4 6 k = 0 ∧ ind 7 16 k = 1 ∧ pick p v k = p 7 + v 6 := by
    intro k hk
    have := k.isLt
    refine ⟨if_neg (by omega), if_neg (by omega), if_neg (by omega), if_pos (by omega), ?_⟩
    unfold pick; rw [if_neg (by omega), if_neg (by omega), if_neg (by omega)]
  have cases : ∀ k : Fin 17,
      (ind 0 0 k = 1 ∧ ind 1 3 k = 0 ∧ ind 4 6 k = 0 ∧ ind 7 16 k = 0 ∧ pick p v k = p 0)
      ∨ (ind 0 0 k = 0 ∧ ind 1 3 k = 1 ∧ ind 4 6 k = 0 ∧ ind 7 16 k = 0 ∧ pick p v k = p 1 + v 0)
      ∨ (ind 0 0 k = 0 ∧ ind 1 3 k = 0 ∧ ind 4 6 k = 1 ∧ ind 7 16 k = 0 ∧ pick p v k = p 4 - v 3)
      ∨ (ind 0 0 k = 0 ∧ ind 1 3 k = 0 ∧ ind 4 6 k = 0 ∧ ind 7 16 k = 1 ∧ pick p v k = p 7 + v 6) := by
    intro k
    rcases cls k with h | h | h | h
    · exact Or.inl (c0 k h)
    · exact Or.inr (Or.inl (c1 k h))
    · exact Or.inr (Or.inr (Or.inl (c2 k h)))
    · exact Or.inr (Or.inr (Or.inr (c3 k h)))
  rcases cases i with ⟨a0, a1, a2, a3, a4⟩ | ⟨a0, a1, a2, a3, a4⟩ | ⟨a0, a1, a2, a3, a4⟩ | ⟨a0, a1, a2, a3, a4⟩ <;>
  rcases cases j with ⟨b0, b1, b2, b3, b4⟩ | ⟨b0, b1, b2, b3, b4⟩ | ⟨b0, b1, b2, b3, b4⟩ | ⟨b0, b1, b2, b3, b4⟩ <;>
  simp only [a0, a1, a2, a3, a4, b0, b1, b2, b3, b4, add_zero, zero_add, zero_mul, one_mul, two] <;>
  exact add_comm _ _

/-! ## The two chosen nodes and the result as functions of the scores -/

/-- The order in which the nodes are listed: by descending score, the lower number first among equals. -/
def before (s : Fin 17 → EReal) (p q : Fin 17) : Bool := decide (-s p < -s q)

/-- The best node and the best of the others. -/
def first (s : Fin 17 → EReal) : Fin 17 := sortedFrom (before s) 0
@[inherit_doc first] def second (s : Fin 17 → EReal) : Fin 17 := sortedFrom (before s) 1

/-- The first node listed has the greatest score, and the lowest number among those that share it. -/
theorem first_best (s : Fin 17 → EReal) : Best s (fun _ => True) (first s) :=
  best_first s (fun p => -s p) fun _ _ => EReal.neg_lt_neg_iff

/-- The second node listed is the best of all nodes but the first. -/
theorem second_best (s : Fin 17 → EReal) : Best s (fun q => q ≠ first s) (second s) :=
  best_second s (fun p => -s p) fun _ _ => EReal.neg_lt_neg_iff

/-- The program's result at one batch entry, node and feature. -/
def result (P : Fin 4096 → Fin 17 → Fin 256 → EReal) (V : Fin 4096 → Fin 16 → Fin 256 → EReal)
    (A : Fin 4096 → Fin 8 → Fin 17 → Fin 17 → EReal) (f : EReal) (b : Fin 4096) (c : Fin 17) (z : Fin 256) : EReal :=
  outcome (fun n => P b n z) (fun n => V b n z) f (first (score (A b))) (second (score (A b))) c

end TreeTop
-- ==== Proof.KernelPick.lean ====
/- What one block of the kernel computes before it stores: the scores of its batch entries, the two chosen nodes, the
   class weights of the two, and the root's value. -/
module

public import proofs.«01_k».proof.Proof.Spec
public import proofs.«01_k».proof.Proof.Gen.KernelIdeal.Skeleton
public import Idealize.ShloMosaic.Lib.Pointwise

@[expose] public section

noncomputable section

namespace TreeTop

open Idealize.ShloMosaic Idealize.ShloMosaic.TcCoe Cert.KernelIdeal Cert.KernelIdeal.Gen

/-- The reduction of the two middle axes sums over them. -/
theorem sum_middle (v : FVec Ideal S17x17x8x256 .f32) (i : Fin 17) (r : Fin 256) :
    multiReduction .add [1, 2] S17x256 v 0x00000000#32 reduces_S17x17x8x256_S17x256 (.inl rfl) rfl (ix2 i r)
      = ∑ j : Fin 17, ∑ h : Fin 8, (v (ix4 i j h r) : EReal) := by
  pointwise
  have fib : ∀ x : S17x17x8x256.Idx, reduces_S17x17x8x256_S17x256.drop x = ix2 i r
      ↔ ∃ q : Fin 17 × Fin 8, ix4 i q.1 q.2 r = x := by
    intro x
    constructor
    · intro e
      refine ⟨(x 1, x 2), ?_⟩
      funext a
      apply Fin.ext
      match a with
      | ⟨0, _⟩ => exact (congrArg Fin.val (congrFun e 0)).symm
      | ⟨1, _⟩ => rfl
      | ⟨2, _⟩ => rfl
      | ⟨3, _⟩ => exact (congrArg Fin.val (congrFun e 1)).symm
    · rintro ⟨q, rfl⟩
      funext a
      apply Fin.ext
      match a with
      | ⟨0, _⟩ => rfl
      | ⟨1, _⟩ => rfl
  refine (Finset.sum_filter_eq_sum_of_fiber _ (fun q : Fin 17 × Fin 8 => ix4 i q.1 q.2 r)
    (fun q q' e => Prod.ext (congrFun e 1) (congrFun e 2)) fib v).trans ?_
  exact Fintype.sum_prod_type _

/-- The block's scores. -/
theorem scores_at (x : Vec Ideal S17x17x8x256 .f32) (i : Fin 17) (r : Fin 256) :
    (k0_pay2 x : FVec Ideal S17x256 .f32) (ix2 i r) = score (fun h i j => (x : FVec Ideal S17x17x8x256 .f32) (ix4 i j h r)) i := by
  unfold k0_pay2
  dsimp only
  refine (sum_middle _ i r).trans ?_
  unfold score
  pointwise

/-- The least index at which a maximum is attained, `17` standing for "not here", is the first maximal node. -/
theorem word_of_best (s : Fin 17 → EReal) (p : Fin 17) (hp : Best s (fun _ => True) p) :
    Finset.univ.fold IntOp.minsi 2147483647#32
      (fun k : Fin 17 => if s k = Finset.univ.fold max (Ideal.ofBits .f32 0xFF800000#32) s then BitVec.ofNat 32 k.val
        else 17#32) = BitVec.ofNat 32 p.val := by
  refine fold_first s p hp _ fun k => ?_
  rw [lit_bot, fold_max_eq s p hp]

/-- Two numbers below seventeen are equal words only if they are equal. -/
theorem eq_words (k p : Fin 17) : IntOp.cmpi .eq (BitVec.ofNat 32 k.val) (BitVec.ofNat 32 p.val)
    = if k = p then 1#1 else 0#1 := by
  revert k p
  decide

section
variable (x : Vec Ideal S17x17x8x256 .f32) (r : Fin 256) (s : Fin 17 → EReal)
  (hs : ∀ i, (k0_pay2 x : FVec Ideal S17x256 .f32) (ix2 i r) = s i) (p q : Fin 17)
include hs

/-- The first index is the number of the first best node. -/
theorem first_at (hp : Best s (fun _ => True) p) : (k0_pay3 x : IVec S1x256 32) (ix2 0 r) = BitVec.ofNat 32 p.val := by
  unfold k0_pay3
  dsimp only
  pointwise
  simp only [hs]
  exact word_of_best s p hp

/-- The first index, standing as a column. -/
theorem first_col (hp : Best s (fun _ => True) p) : (k0_pay4 x : IVec S256x1 32) (ix2 r 0) = BitVec.ofNat 32 p.val := by
  unfold k0_pay4
  dsimp only
  pointwise
  exact first_at x r s hs p hp

/-- The second index is the number of the first best node among the others, once the best is masked by `-∞`. -/
theorem second_col (hb : ∀ i, s i ≠ ⊥) (hp : Best s (fun _ => True) p) (hq : Best s (fun a => a ≠ p) q) :
    (k0_pay5 x : IVec S256x1 32) (ix2 r 0) = BitVec.ofNat 32 q.val := by
  unfold k0_pay5
  dsimp only
  pointwise
  have e : ∀ k : Fin 17, Scalar.select (IntOp.cmpi .eq (BitVec.ofNat 32 k.val) ((k0_pay3 x : IVec S1x256 32) (ix2 0 r)))
      (Ideal.ofBits .f32 4286578688#32) ((k0_pay2 x : FVec Ideal S17x256 .f32) (ix2 k r)) = if k = p then (⊥ : EReal) else s k := by
    intro k
    rw [first_at x r s hs p hp, eq_words, hs, lit_bot]
    by_cases h : k = p
    · rw [if_pos h, if_pos h]; rfl
    · rw [if_neg h, if_neg h]; rfl
  simp only [e]
  exact word_of_best _ q (best_masked s p q hb hq)

end

/-- A bit as a float. -/
theorem bit_float (c : Prop) [Decidable c] (w : BitVec 32) (h : w = if c then 1#32 else 0#32) :
    (FloatOps.sitofp (F := Ideal) .f32 w : EReal) = if c then 1 else 0 := by
  subst h
  split_ifs
  · show ((((1#32 : BitVec 32).toInt : ℝ)) : EReal) = 1
    norm_num
  · show ((((0#32 : BitVec 32).toInt : ℝ)) : EReal) = 0
    norm_num

/-- The class of the root alone, as a weight. -/
theorem ind_root (p : Fin 17) : (FloatOps.sitofp (F := Ideal) .f32
    (BitVec.setWidth 32 (IntOp.cmpi .eq (BitVec.ofNat 32 p.val) 0#32)) : EReal) = ind 0 0 p :=
  bit_float _ _ (by revert p; decide)

/-- The class of nodes one to three, as a weight. -/
theorem ind_one (p : Fin 17) : (FloatOps.sitofp (F := Ideal) .f32 (BitVec.setWidth 32
    (IntOp.andi (IntOp.cmpi .sge (BitVec.ofNat 32 p.val) 1#32) (IntOp.cmpi .sle (BitVec.ofNat 32 p.val) 3#32))) : EReal)
      = ind 1 3 p :=
  bit_float _ _ (by revert p; decide)

/-- The class of nodes four to six, as a weight. -/
theorem ind_four (p : Fin 17) : (FloatOps.sitofp (F := Ideal) .f32 (BitVec.setWidth 32
    (IntOp.andi (IntOp.cmpi .sge (BitVec.ofNat 32 p.val) 4#32) (IntOp.cmpi .sle (BitVec.ofNat 32 p.val) 6#32))) : EReal)
      = ind 4 6 p :=
  bit_float _ _ (by revert p; decide)

/-- The class of nodes seven and above, as a weight. -/
theorem ind_seven (p : Fin 17) : (FloatOps.sitofp (F := Ideal) .f32
    (BitVec.setWidth 32 (IntOp.cmpi .sge (BitVec.ofNat 32 p.val) 7#32)) : EReal) = ind 7 16 p :=
  bit_float _ _ (by revert p; decide)

section
variable (x : Vec Ideal S17x17x8x256 .f32) (r : Fin 256) (p q : Fin 17)
  (hp : (k0_pay4 x : IVec S256x1 32) (ix2 r 0) = BitVec.ofNat 32 p.val)
  (hq : (k0_pay5 x : IVec S256x1 32) (ix2 r 0) = BitVec.ofNat 32 q.val)
include hp hq

/-- The four classes' weights: how many of the two chosen nodes each class holds. -/
theorem weight_root : (k0_pay9 (k0_pay5 x) (k0_pay6 x) : FVec Ideal S256x1 .f32) (ix2 r 0) = (ind 0 0 p + ind 0 0 q : EReal) := by
  unfold k0_pay9 k0_pay6
  dsimp only
  pointwise
  rw [hp, hq, ind_root, ind_root]

@[inherit_doc weight_root] theorem weight_one :
    (k0_pay10 (k0_pay5 x) (k0_pay7 x) : FVec Ideal S256x1 .f32) (ix2 r 0) = (ind 1 3 p + ind 1 3 q : EReal) := by
  unfold k0_pay10 k0_pay7
  dsimp only
  pointwise
  rw [hp, hq, ind_one, ind_one]

@[inherit_doc weight_root] theorem weight_four :
    (k0_pay11 (k0_pay5 x) (k0_pay8 x) : FVec Ideal S256x1 .f32) (ix2 r 0) = (ind 4 6 p + ind 4 6 q : EReal) := by
  unfold k0_pay11 k0_pay8
  dsimp only
  pointwise
  rw [hp, hq, ind_four, ind_four]

@[inherit_doc weight_root] theorem weight_seven :
    (k0_pay12 (k0_pay4 x) (k0_pay5 x) : FVec Ideal S256x1 .f32) (ix2 r 0) = (ind 7 16 p + ind 7 16 q : EReal) := by
  unfold k0_pay12
  pointwise
  rw [hp, hq, ind_seven, ind_seven]

end

end TreeTop
-- ==== Proof.KernelBlock.lean ====
/- What one block of the kernel leaves in its output: for each node its point plus the scaled value that the propagation
   down the tree gives it, the tree started from the block's root value. -/
module

public import proofs.«01_k».proof.Proof.KernelPick
public import proofs.«01_k».proof.Proof.Gen.KernelIdeal.Frame
public import Idealize.ShloMosaic.Lib.Pointwise
public import Idealize.ShloMosaic.Lib.Pipeline.Value
public import Idealize.ShloMosaic.Lib.Pipeline.ValueKit

@[expose] public section

noncomputable section

namespace TreeTop

open Idealize.ShloMosaic Idealize.ShloMosaic.TcCoe Cert.KernelIdeal Cert.KernelIdeal.Gen

section
variable (x0 : Vec Ideal S1 .f32) (x1 : Vec Ideal S17x17x8x256 .f32) (x2 : Vec Ideal S17x256x256 .f32)
  (x3 : Vec Ideal S256x16x256 .f32)

/-- The blocks of points, vectors and attention read at an element, and the scale. -/
def bp (r z : Fin 256) (c : Fin 17) : EReal := (x2 : FVec Ideal S17x256x256 .f32) (ix3 c r z)
@[inherit_doc bp] def bv (r z : Fin 256) (q : Fin 16) : EReal := (x3 : FVec Ideal S256x16x256 .f32) (ix3 r q z)
@[inherit_doc bp] def ba (r : Fin 256) (h : Fin 8) (i j : Fin 17) : EReal := (x1 : FVec Ideal S17x17x8x256 .f32) (ix4 i j h r)
@[inherit_doc bp] def bf : EReal := (x0 : FVec Ideal S1 .f32) (ix1 0)

/-- The attention block, loaded whole. -/
def whole : Vec Ideal S17x17x8x256 .f32 :=
  View.ld x1 (Rect.unit ![0, 0, 0, 0] S17x17x8x256.size inb_S17x17x8x256_S17x17x8x256_0_0_0_0)

/-- Loading the block whole gives the block. -/
theorem whole_eq : whole x1 = x1 := by
  have z : (![0, 0, 0, 0] : Fin 4 → ℕ) = fun _ => 0 := funext fun a => by fin_cases a <;> rfl
  unfold whole
  exact View.ld_unit_zero z _ _

/-- The root's value over a block, as the kernel computes it. -/
def root : FVec Ideal S256x256 .f32 :=
  k0_pay16 (F := Ideal) (k0_pay9 (k0_pay5 (whole x1)) (k0_pay6 (whole x1))) (k0_pay10 (k0_pay5 (whole x1)) (k0_pay7 (whole x1)))
    (k0_pay11 (k0_pay5 (whole x1)) (k0_pay8 (whole x1))) (k0_pay12 (k0_pay4 (whole x1)) (k0_pay5 (whole x1)))
    (k0_pay13 (View.ld x2 (Rect.unit ![0, 0, 0] S1x256x256.size inb_S17x256x256_S1x256x256_0_0_0)))
    (k0_pay14 (View.ld x2 (Rect.unit ![1, 0, 0] S1x256x256.size inb_S17x256x256_S1x256x256_1_0_0))
      (View.ld x3 (Rect.unit ![0, 0, 0] S256x1x256.size inb_S256x16x256_S256x1x256_0_0_0)))
    (k0_pay15 (View.ld x2 (Rect.unit ![4, 0, 0] S1x256x256.size inb_S17x256x256_S1x256x256_4_0_0)))
    (View.ld x3 (Rect.unit ![0, 3, 0] S256x1x256.size inb_S256x16x256_S256x1x256_0_3_0))
    (View.ld x2 (Rect.unit ![7, 0, 0] S1x256x256.size inb_S17x256x256_S1x256x256_7_0_0))
    (View.ld x3 (Rect.unit ![0, 6, 0] S256x1x256.size inb_S256x16x256_S256x1x256_0_6_0))

/-- The root's value at an element: the mean of the rows that the two chosen nodes contribute. -/
theorem root_at (r z : Fin 256) (p q : Fin 17) (hb : ∀ h i j, ba x1 r h i j ≠ ⊥)
    (hp : Best (score (ba x1 r)) (fun _ => True) p) (hq : Best (score (ba x1 r)) (fun a => a ≠ p) q) :
    root x1 x2 x3 (ix2 r z)
      = (pick (bp x2 r z) (bv x3 r z) p + pick (bp x2 r z) (bv x3 r z) q) * ((1 / 2 : ℝ) : EReal) := by
  have hs : ∀ i, (k0_pay2 x1 : FVec Ideal S17x256 .f32) (ix2 i r) = score (ba x1 r) i := fun i => scores_at x1 i r
  have ep := first_col x1 r _ hs p hp
  have eq := second_col x1 r _ hs p q (fun i => score_ne_bot _ hb i) hp hq
  unfold root
  rw [whole_eq]
  have e0 := weight_root x1 r p q ep eq
  have e1 := weight_one x1 r p q ep eq
  have e2 := weight_four x1 r p q ep eq
  have e3 := weight_seven x1 r p q ep eq
  generalize k0_pay9 (F := Ideal) (k0_pay5 x1) (k0_pay6 x1) = w0 at e0 ⊢
  generalize k0_pay10 (F := Ideal) (k0_pay5 x1) (k0_pay7 x1) = w1 at e1 ⊢
  generalize k0_pay11 (F := Ideal) (k0_pay5 x1) (k0_pay8 x1) = w2 at e2 ⊢
  generalize k0_pay12 (F := Ideal) (k0_pay4 x1) (k0_pay5 x1) = w3 at e3 ⊢
  unfold k0_pay16 k0_pay15 k0_pay14 k0_pay13
  dsimp only
  pointwise
  rw [e0, e1, e2, e3, lit_half, mul_comm]
  rw [← weights]
  rfl

/-- Subtracting a value weighted by minus one is adding it. -/
theorem sub_neg_one (x y : EReal) : x - -1 * y = x + y := by rw [neg_one_mul, sub_eq_add_neg, neg_neg]

/-- What a block is shown to hold: each node's point plus the scaled value of the tree at that node. -/
def blockValue (U : FVec Ideal S256x256 .f32) (y : S17x256x256.Idx) : EReal :=
  bp x2 (y 1) (y 2) (y 0) + bf x0 * tree (U (ix2 (y 1) (y 2))) (bv x3 (y 1) (y 2)) (y 0)

/-- A store of node `k`'s rows agrees with the block's value if it does at every batch entry and feature. -/
theorem piece_row (U : FVec Ideal S256x256 .f32) (k : Fin 17) (inb : ∀ a, (![k.val, 0, 0] : Fin 3 → ℕ) a + (![1, 256, 256] : Fin 3 → ℕ) a ≤ S17x256x256.size a)
    (W : FVec Ideal S1x256x256 .f32)
    (h : ∀ r z : Fin 256, W (ix3 0 r z) = bp x2 r z k + bf x0 * tree (U (ix2 r z)) (bv x3 r z) k) (j : S1x256x256.Idx) :
    W j = blockValue x0 x2 x3 U ((Rect.unit (s := S17x256x256) ![k.val, 0, 0] ![1, 256, 256] inb).emb j) := by
  have e : j = ix3 0 (j 1) (j 2) := by
    funext a
    refine Fin.cases ?_ (fun a => Fin.cases rfl (fun a => Fin.cases rfl (fun a => a.elim0) a) a) a
    exact Fin.ext (by have := (j 0).isLt; simpa using this)
  have e0 : (Rect.unit (s := S17x256x256) ![k.val, 0, 0] ![1, 256, 256] inb).emb j = ix3 k (j 1) (j 2) := by
    funext a
    apply Fin.ext
    rw [Rect.emb_apply]
    match a with
    | ⟨0, _⟩ => have := (j 0).isLt; simp at this ⊢
    | ⟨1, _⟩ => simp
    | ⟨2, _⟩ => simp
  rw [e0]
  refine (congrArg W e).trans (h _ _)

end

/-- The block the kernel leaves is that value: each of its seventeen stores writes one node's rows of it. -/
theorem block_at (c : Dev nD) (i : grid0.Coords) (arg1 : Memref sig .tc .smem S1 .f32) (harg1 : arg1.IsWhole) (arg2 : Memref sig .tc .vmem S17x17x8x256 .f32) (harg2 : arg2.IsWhole) (arg3 : Memref sig .tc .vmem S17x256x256 .f32) (harg3 : arg3.IsWhole) (arg4 : Memref sig .tc .vmem S256x16x256 .f32) (harg4 : arg4.IsWhole) (arg5 : Memref sig .tc .vmem S17x256x256 .f32) (harg5 : arg5.IsWhole)
    (x0 : Vec Ideal S1 .f32) (x1 : Vec Ideal S17x17x8x256 .f32) (x2 : Vec Ideal S17x256x256 .f32)
    (x3 : Vec Ideal S256x16x256 .f32) (y : S17x256x256.Idx) :
    out0_A_4 c i arg1 harg1 arg2 harg2 arg3 harg3 arg4 harg4 arg5 harg5 x0 x1 x2 x3 y
      = blockValue x0 x2 x3 (root x1 x2 x3) y := by
  have hc := cover0_A_4 c i arg1 harg1 arg2 harg2 arg3 harg3 arg4 harg4 arg5 harg5 x0 x1 x2 x3
  unfold out0_A_4
  rw [View.read_writes_eq_canon _ _ _ hc]
  refine View.canon_apply_of_pieces (blockValue x0 x2 x3 (root x1 x2 x3)) _ ?_ y (hc y)
  unfold kernelRun0_A
  dsimp only
  sl_unfold_words
  simp only [View.readAt_eq_ld, harg1.read_unread, harg2.read_unread, harg3.read_unread, harg4.read_unread]
  unfold k0_pay17 k0_pay18
  generalize hU : k0_pay16 (F := Ideal) _ _ _ _ _ _ _ _ _ _ = U
  obtain rfl : root x1 x2 x3 = U := hU
  generalize root x1 x2 x3 = U
  intro p hp j
  simp only [List.mem_cons, List.mem_nil_iff, or_false] at hp
  rcases hp with rfl | rfl | rfl | rfl | rfl | rfl | rfl | rfl | rfl | rfl | rfl | rfl | rfl | rfl | rfl | rfl | rfl
  · refine piece_row x0 x2 x3 U 16 inb_S17x256x256_S1x256x256_16_0_0 _ (fun r z => ?_) j
    unfold_payloads
    pointwise
    simp only [lit_neg_one, sub_neg_one]
    rfl
  · refine piece_row x0 x2 x3 U 15 inb_S17x256x256_S1x256x256_15_0_0 _ (fun r z => ?_) j
    unfold_payloads
    pointwise
    simp only [lit_neg_one, sub_neg_one]
    rfl
  · refine piece_row x0 x2 x3 U 14 inb_S17x256x256_S1x256x256_14_0_0 _ (fun r z => ?_) j
    unfold_payloads
    pointwise
    simp only [lit_neg_one, sub_neg_one]
    rfl
  · refine piece_row x0 x2 x3 U 13 inb_S17x256x256_S1x256x256_13_0_0 _ (fun r z => ?_) j
    unfold_payloads
    pointwise
    simp only [lit_neg_one, sub_neg_one]
    rfl
  · refine piece_row x0 x2 x3 U 12 inb_S17x256x256_S1x256x256_12_0_0 _ (fun r z => ?_) j
    unfold_payloads
    pointwise
    simp only [lit_neg_one, sub_neg_one]
    rfl
  · refine piece_row x0 x2 x3 U 11 inb_S17x256x256_S1x256x256_11_0_0 _ (fun r z => ?_) j
    unfold_payloads
    pointwise
    simp only [lit_neg_one, sub_neg_one]
    rfl
  · refine piece_row x0 x2 x3 U 10 inb_S17x256x256_S1x256x256_10_0_0 _ (fun r z => ?_) j
    unfold_payloads
    pointwise
    simp only [lit_neg_one, sub_neg_one]
    rfl
  · refine piece_row x0 x2 x3 U 9 inb_S17x256x256_S1x256x256_9_0_0 _ (fun r z => ?_) j
    unfold_payloads
    pointwise
    simp only [lit_neg_one, sub_neg_one]
    rfl
  · refine piece_row x0 x2 x3 U 8 inb_S17x256x256_S1x256x256_8_0_0 _ (fun r z => ?_) j
    unfold_payloads
    pointwise
    simp only [lit_neg_one, sub_neg_one]
    rfl
  · refine piece_row x0 x2 x3 U 7 inb_S17x256x256_S1x256x256_7_0_0 _ (fun r z => ?_) j
    unfold_payloads
    pointwise
    rfl
  · refine piece_row x0 x2 x3 U 6 inb_S17x256x256_S1x256x256_6_0_0 _ (fun r z => ?_) j
    unfold_payloads
    pointwise
    simp only [lit_neg_one, sub_neg_one]
    rfl
  · refine piece_row x0 x2 x3 U 5 inb_S17x256x256_S1x256x256_5_0_0 _ (fun r z => ?_) j
    unfold_payloads
    pointwise
    simp only [lit_neg_one, sub_neg_one]
    rfl
  · refine piece_row x0 x2 x3 U 4 inb_S17x256x256_S1x256x256_4_0_0 _ (fun r z => ?_) j
    unfold_payloads
    pointwise
    simp only [lit_neg_one, sub_neg_one]
    rfl
  · refine piece_row x0 x2 x3 U 3 inb_S17x256x256_S1x256x256_3_0_0 _ (fun r z => ?_) j
    unfold_payloads
    pointwise
    simp only [lit_neg_one, sub_neg_one]
    rfl
  · refine piece_row x0 x2 x3 U 2 inb_S17x256x256_S1x256x256_2_0_0 _ (fun r z => ?_) j
    unfold_payloads
    pointwise
    simp only [lit_neg_one, sub_neg_one]
    rfl
  · refine piece_row x0 x2 x3 U 1 inb_S17x256x256_S1x256x256_1_0_0 _ (fun r z => ?_) j
    unfold_payloads
    pointwise
    rfl
  · refine piece_row x0 x2 x3 U 0 inb_S17x256x256_S1x256x256_0_0_0 _ (fun r z => ?_) j
    unfold_payloads
    pointwise
    rfl

end TreeTop
-- ==== Proof.KernelArray.lean ====
/- The kernel's output array after its grid: every batch entry's rows are the result, each block written by one point. -/
module

public import proofs.«01_k».proof.Proof.KernelBlock
public import Idealize.ShloMosaic.Lib.Claim

@[expose] public section

set_option maxRecDepth 16384

noncomputable section

namespace TreeTop

open Idealize.ShloMosaic Idealize.ShloMosaic.TcCoe Cert.KernelIdeal Cert.KernelIdeal.Gen
open Idealize.ShloMosaic.Pipeline (Dat)

variable (m : (ℓ : Loc nD τ sig) → Buf (Elt Ideal) ℓ) (c : Dev nD)

/-- The launch's points, vectors, attention and scale, read at an element. -/
def lp (b : Fin 4096) (n : Fin 17) (z : Fin 256) : EReal := (m ((c : Thread nD τ).loc main_arg0) : FVec Ideal S4096x17x256 .f32) (ix3 b n z)
@[inherit_doc lp] def lv (b : Fin 4096) (n : Fin 16) (z : Fin 256) : EReal := (m ((c : Thread nD τ).loc main_arg1) : FVec Ideal S4096x16x256 .f32) (ix3 b n z)
@[inherit_doc lp] def la (b : Fin 4096) (h : Fin 8) (i j : Fin 17) : EReal := (m ((c : Thread nD τ).loc main_arg2) : FVec Ideal S4096x8x17x17 .f32) (ix4 b h i j)
@[inherit_doc lp] def lf : EReal := (m ((c : Thread nD τ).loc main_arg3) : FVec Ideal S1 .f32) (ix1 0)

/-- The attention array as the grid finds it, its axes reordered. -/
theorem entry_attn (i j : Fin 17) (h : Fin 8) (b : Fin 4096) :
    (V m c main_call0_v0 : FVec Ideal S17x17x8x4096 .f32) (ix4 i j h b) = la m c b h i j := by
  unfold la
  unfold V V0 hostOps0
  simp only [List.flatten_cons, List.flatten_nil, List.append_nil]
  after_results
  show transpose S17x17x8x4096 [2, 3, 1, 0] (m ((c : Thread nD τ).loc main_arg2) : FVec Ideal S4096x8x17x17 .f32)
    transposes_S4096x8x17x17_S17x17x8x4096_2_3_1_0 (ix4 i j h b) = _
  pointwise

/-- The points as the grid finds them, node first. -/
theorem entry_points (n : Fin 17) (b : Fin 4096) (z : Fin 256) :
    (V m c main_call0_v1 : FVec Ideal S17x4096x256 .f32) (ix3 n b z) = lp m c b n z := by
  unfold lp
  unfold V V0 hostOps0
  simp only [List.flatten_cons, List.flatten_nil, List.append_nil]
  after_results
  show transpose S17x4096x256 [1, 0, 2] (m ((c : Thread nD τ).loc main_arg0) : FVec Ideal S4096x17x256 .f32)
    transposes_S4096x17x256_S17x4096x256_1_0_2 (ix3 n b z) = _
  pointwise

/-- The batch entry that row `r` of point `t`'s block is. -/
def entry (t : Fin cfg0.N) (r : Fin 256) : Fin 4096 := ⟨t.val * 256 + r.val, by have := t.isLt; have : cfg0.N = 16 := rfl; omega⟩

/-- The blocks' places in their arrays. -/
theorem places : ∀ t : Fin cfg0.N, win0_0.index t = ![0] ∧ win0_1.index t = ![0, 0, 0, t.val] ∧ win0_2.index t = ![0, t.val, 0]
    ∧ win0_3.index t = ![t.val, 0, 0] ∧ win0_4.index t = ![0, t.val, 0] :=
  (by decide +kernel : ∀ t : Fin grid0.N, win0_0.index t = ![0] ∧ win0_1.index t = ![0, 0, 0, t.val] ∧ win0_2.index t = ![0, t.val, 0]
    ∧ win0_3.index t = ![t.val, 0, 0] ∧ win0_4.index t = ![0, t.val, 0])

/-- A point's attention block holds its own batch entries' attention. -/
theorem block_attn (t : Fin cfg0.N) (r : Fin 256) (h : Fin 8) (i j : Fin 17) :
    ba (iblk m c 1 t) r h i j = la m c (entry t r) h i j := by
  rw [← entry_attn]
  unfold ba
  blk_ext [iblk, places t, entry]

/-- A point's block of points holds its own batch entries' points. -/
theorem block_points (t : Fin cfg0.N) (r z : Fin 256) (n : Fin 17) :
    bp (iblk m c 2 t) r z n = lp m c (entry t r) n z := by
  rw [← entry_points]
  unfold bp
  blk_ext [iblk, places t, entry]

/-- A point's block of vectors holds its own batch entries' vectors. -/
theorem block_vectors (t : Fin cfg0.N) (r z : Fin 256) (n : Fin 16) :
    bv (iblk m c 3 t) r z n = lv m c (entry t r) n z := by
  unfold lv
  rw [← V_main_arg1 m c]
  unfold bv
  blk_ext [iblk, places t, entry]

/-- Every point sees the one scale factor. -/
theorem block_scale (t : Fin cfg0.N) : bf (iblk m c 0 t) = lf m c := by
  unfold lf
  rw [← V_main_arg3 m c]
  unfold bf
  blk_ext [iblk, places t]

/-- What the output array is shown to hold, node first. -/
def arrayValue (y : S17x4096x256.Idx) : EReal := result (lp m c) (lv m c) (la m c) (lf m c) (y 1) (y 0) (y 2)

/-- After the last point the output array holds the result at every element: its blocks cover it, and each holds its part. -/
theorem final (hA : ∀ b h i j, la m c b h i j ≠ ⊥) : (dats m 0 c).arrAt 4 cfg0.N = arrayValue m c := by
  refine (dats m 0 c).arrAt_eq_of_covers 4 _ (by decide +kernel) fun t hf y => ?_
  blk_simp
  rw [after0_4]
  unfold outsAt0
  rw [block_at]
  have hb : ∀ r h i j, ba (iblk m c 1 t) r h i j ≠ ⊥ := fun r h i j => by
    rw [block_attn]; exact hA _ h i j
  have hs : ∀ r, score (ba (iblk m c 1 t) r) = score (la m c (entry t r)) := fun r =>
    congrArg score (funext fun h => funext fun i => funext fun j => block_attn m c t r h i j)
  have hr : ∀ r z, root (iblk m c 1 t) (iblk m c 2 t) (iblk m c 3 t) (ix2 r z)
      = (pick (fun n => lp m c (entry t r) n z) (fun n => lv m c (entry t r) n z) (first (score (la m c (entry t r))))
        + pick (fun n => lp m c (entry t r) n z) (fun n => lv m c (entry t r) n z) (second (score (la m c (entry t r)))))
        * ((1 / 2 : ℝ) : EReal) := fun r z => by
    rw [root_at _ _ _ r z _ _ (hb r) (first_best _) (second_best _), hs,
      funext (block_points m c t r z), funext (block_vectors m c t r z)]
  have he : (win0_4.blk t).view.emb y = ix3 (y 0) (entry t (y 1)) (y 2) := by
    blk_ext [places t, entry]
  rw [he]
  have hv : ∀ y : S17x256x256.Idx,
      blockValue (iblk m c 0 t) (iblk m c 2 t) (iblk m c 3 t) (root (iblk m c 1 t) (iblk m c 2 t) (iblk m c 3 t)) y
        = result (lp m c) (lv m c) (la m c) (lf m c) (entry t (y 1)) (y 0) (y 2) := fun y => by
    unfold blockValue result outcome
    have h := hr (y 1) (y 2)
    refine (congrArg₂ (fun a b => a + b) (block_points m c t (y 1) (y 2) (y 0))
      (congrArg₂ (fun a b => a * b) (block_scale m c t)
        (congrArg₂ (fun a b => tree a b (y 0)) h (funext (block_vectors m c t (y 1) (y 2)))))).trans ?_
    exact (add_comm _ _).trans (congrArg (fun a => a + _) (mul_comm _ _))
  exact hv y

/-- The program's result buffer: the output array, its batch axis brought back to the front. -/
theorem tail_value (hA : ∀ b h i j, la m c b h i j ≠ ⊥) (b : Fin 4096) (n : Fin 17) (z : Fin 256) :
    (Pipeline.afterTail₀ cfgs (dats m) 0 (V0 m) [hostOps1] c main_v0 : FVec Ideal S4096x17x256 .f32) (ix3 b n z)
      = result (lp m c) (lv m c) (la m c) (lf m c) b n z := by
  unfold Pipeline.afterTail₀ hostOps1
  simp only [List.flatten_cons, List.flatten_nil, List.append_nil]
  after_results
  have hw := Pipeline.withArrays_arr spec0 (by decide) c (V0 m c) (fun w => (dats m 0 c).arrAt w cfg0.N) 4
  rw [final m c hA] at hw
  show transpose S4096x17x256 [1, 0, 2] (Pipeline.withArrays spec0 c (V0 m c) (fun w => (dats m 0 c).arrAt w cfg0.N)
    (Proc.devRef .tc (Pipeline.arrRef spec0 4)) : FVec Ideal S17x4096x256 .f32) transposes_S17x4096x256_S4096x17x256_1_0_2 (ix3 b n z) = _
  rw [hw]
  pointwise
  rfl

/-- Every run of the program ends with the result in its buffer and its arguments as they were. -/
theorem kernel_run (ρ : Dev nD → PrngReg) (hA : ∀ c b h i j, la m c b h i j ≠ ⊥) :
    θ_run defs (onTc (τ := τ) (main (F := Ideal))) ⟨m, fun _ => 0, ρ⟩ fun r => ∀ c : Dev nD,
      (∀ b n z, (r.2.mem ((c : Thread nD τ).loc main_v0) : FVec Ideal S4096x17x256 .f32) (ix3 b n z)
        = result (lp m c) (lv m c) (la m c) (lf m c) b n z)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨fun b n z => by
      have e := (h.1 c).2 main_v0 (Pipeline.mem_restRefs_of main_v0 (by decide) (by decide))
      exact (congrFun e (ix3 b n z)).trans (tail_value m c (hA c) b n z), h.2 c⟩)
    (θ_run_and (run_main m ρ) (unchanged m ρ))

end TreeTop
-- ==== Proof.RefOps.lean ====
/- The reference's three indexed operations read at one element: a scatter that overwrites one node's rows, the gather
   of two rows by index words, and the sort that carries the node numbers. -/
module

public import proofs.«01_k».proof.Proof.Top2
public import proofs.«01_k».proof.Proof.Gen.ReferenceIdeal
public import Idealize.ShloMosaic.Lib.Routing.OpsSet
public import Idealize.ShloMosaic.Lib.Routing.OpsPair

@[expose] public section

noncomputable section

namespace TreeTop

open Idealize.ShloMosaic Cert.ReferenceIdeal Cert.ReferenceIdeal.Gen

/-- Overwriting the rows of node `w`: at node `c` the result holds the new row if `c` is that node, else the old. -/
theorem scatter_node {α : Type} (x : S4096x17x256.Idx → α) (w : BitVec 32) (upd : S4096x256.Idx → α)
    (b : Fin 4096) (c : Fin 17) (z : Fin 256) :
    Host.scatter scatter_S4096x17x256_S1_S4096x256_01_1_1_0 (fun _ b => b) x (fun _ => w) upd (ix3 b c z)
      = if w.toInt = (c.val : Int) then upd (ix2 b z) else x (ix3 b c z) := by
  have key : ∀ k : S4096x256.Idx,
      scatter_S4096x17x256_S1_S4096x256_01_1_1_0.resultIdx? k (fun _ => w) = some (ix3 b c z)
        ↔ (k = ix2 b z ∧ w.toInt = (c.val : Int)) := by
    intro k
    obtain ⟨k0, k1, rfl⟩ : ∃ (k0 : Fin 4096) (k1 : Fin 256), k = ix2 k0 k1 := ⟨k 0, k 1, eq_ix2 k⟩
    rw [Routing.resultIdx?_eq_some]
    have e0 : scatter_S4096x17x256_S1_S4096x256_01_1_1_0.start (ix2 k0 k1) (fun _ => w) 0
        + (scatter_S4096x17x256_S1_S4096x256_01_1_1_0.window (ix2 k0 k1) 0 : Int) = (k0.val : Int) := by
      unfold ScatterDims.start ScatterDims.window
      rw [dif_neg (by decide), dif_pos (by decide)]
      simp
    have e1 : scatter_S4096x17x256_S1_S4096x256_01_1_1_0.start (ix2 k0 k1) (fun _ => w) 1
        + (scatter_S4096x17x256_S1_S4096x256_01_1_1_0.window (ix2 k0 k1) 1 : Int) = w.toInt := by
      unfold ScatterDims.start ScatterDims.window
      rw [dif_pos (by decide), dif_neg (by decide)]
      simp
    have e2 : scatter_S4096x17x256_S1_S4096x256_01_1_1_0.start (ix2 k0 k1) (fun _ => w) 2
        + (scatter_S4096x17x256_S1_S4096x256_01_1_1_0.window (ix2 k0 k1) 2 : Int) = (k1.val : Int) := by
      unfold ScatterDims.start ScatterDims.window
      rw [dif_neg (by decide), dif_pos (by decide)]
      simp
    constructor
    · intro h
      have h0 := h 0; have h1 := h 1; have h2 := h 2
      rw [e0] at h0; rw [e1] at h1; rw [e2] at h2
      have g0 : k0 = b := Fin.ext (by exact_mod_cast h0)
      have g2 : k1 = z := Fin.ext (by exact_mod_cast h2)
      exact ⟨by rw [g0, g2], h1⟩
    · rintro ⟨hk, hw⟩
      have g0 : k0 = b := congrFun hk 0
      have g2 : k1 = z := congrFun hk 1
      intro a
      match a with
      | ⟨0, _⟩ => rw [← g0]; exact e0
      | ⟨1, _⟩ => exact e1.trans hw
      | ⟨2, _⟩ => rw [← g2]; exact e2
  split
  · next h =>
    exact Routing.scatter_set_hit _ x _ upd _ _ (fun k hk => by rw [((key k).1 hk).1]) (ix2 b z) ((key _).2 ⟨rfl, h⟩)
  · next h => exact Routing.scatter_set_miss _ x _ upd _ fun k hk => h ((key k).1 hk).2

/-- The gather's dimension numbers. -/
abbrev gd := gather_S4096x17x256_S4096x2x1_S4096x2x256_2_1_0_0_1_2_11256

/-- The gather of two rows: entry `(b, r, z)` is the row of the node that the index word at `(b, r)` numbers. -/
theorem gather_node {α : Type} (x : S4096x17x256.Idx → α) (idx : IVec S4096x2x1 32)
    (b : Fin 4096) (r : Fin 2) (z : Fin 256) (p : Fin 17) (hp : idx (ix3 b r 0) = BitVec.ofNat 32 p.val) :
    Host.gather gather_S4096x17x256_S4096x2x1_S4096x2x256_2_1_0_0_1_2_11256 x idx (ix3 b r z) = x (ix3 b p z) := by
  unfold Host.gather
  have hi : (idx (ix3 b r 0)).toInt = (p.val : Int) := by rw [hp]; exact toInt_small _ (by omega)
  refine congrArg x (funext fun a => Fin.ext ?_)
  match a with
  | ⟨0, _⟩ =>
    show gd.start (ix3 b r z) idx 0 + gd.batchCoord (ix3 b r z) 0 + gd.offCoord (ix3 b r z) 0 = b.val
    unfold gd GatherDims.start GatherDims.batchCoord GatherDims.offCoord
    rw [dif_neg (by decide), dif_pos (by decide), dif_neg (by decide)]
    simp
    rfl
  | ⟨1, _⟩ =>
    show gd.start (ix3 b r z) idx 1 + gd.batchCoord (ix3 b r z) 1 + gd.offCoord (ix3 b r z) 1 = p.val
    unfold gd GatherDims.start GatherDims.batchCoord GatherDims.offCoord
    rw [dif_pos (by decide), dif_neg (by decide), dif_neg (by decide)]
    have hsi : ∀ h, gather_S4096x17x256_S4096x2x1_S4096x2x256_2_1_0_0_1_2_11256.siIdx (ix3 b r z) ⟨0, h⟩ = ix3 b r 0 := by
      intro h
      funext a
      match a with
      | ⟨0, _⟩ => rfl
      | ⟨1, _⟩ => rfl
      | ⟨2, _⟩ => rfl
    have := p.isLt
    show min (idx (gather_S4096x17x256_S4096x2x1_S4096x2x256_2_1_0_0_1_2_11256.siIdx (ix3 b r z) ⟨0, _⟩)).toInt.toNat (17 - 1) + 0 + 0 = p.val
    refine (congrArg (fun j => min (idx j).toInt.toNat (17 - 1) + 0 + 0) (hsi (by decide))).trans ?_
    show min (idx (ix3 b r 0)).toInt.toNat (17 - 1) + 0 + 0 = p.val
    rw [hi]
    omega
  | ⟨2, _⟩ =>
    show gd.start (ix3 b r z) idx 2 + gd.batchCoord (ix3 b r z) 2 + gd.offCoord (ix3 b r z) 2 = z.val
    unfold gd GatherDims.start GatherDims.batchCoord GatherDims.offCoord
    rw [dif_neg (by decide), dif_neg (by decide), dif_pos (by decide)]
    simp

/-- The reference's comparison of two keys says which is less. -/
theorem comparator_lt (a b : EReal) (i j : BitVec 32) :
    (comparator_f32_i32_d1 (F := Ideal) (a, i) (b, j) == 1#1) = decide (a < b) := by
  have sel : ∀ x : EReal, Scalar.select (FloatOps.cmpf (F := Ideal) (φ := .f32) .une x x)
      (FloatOps.ofBits (F := Ideal) .f32 0x7FC00000#32)
      (Scalar.select (FloatOps.cmpf (F := Ideal) (φ := .f32) .oeq x (FloatOps.ofBits .f32 0x00000000#32))
        (FloatOps.ofBits .f32 0x00000000#32) x) = x := by
    intro x
    simp only [Ideal.cmpf_def, Ideal.ofBits_def, Ideal.ofBits_zero_f32]
    by_cases hx : x = 0 <;> simp [Ideal.cmp, Scalar.select, hx]
  unfold comparator_f32_i32_d1
  simp only [sel]
  rw [Ideal.cmpfTotal_def]
  simp only [Ideal.cmp, CmpDirection.ordered]
  by_cases h : a < b <;> simp [h]

/-- The second operand of the sort, when it numbers the nodes: entry `(b, k)` is the node that the sort by the first
    operand's row `b` puts at place `k`. -/
theorem sort_node (x : FVec Ideal S4096x17 .f32) (b : Fin 4096) (k : Fin 17) :
    (Host.sort2 S4096x17 1 (comparator_f32_i32_d1 (F := Ideal)) x (iotaInDim S4096x17 32 1)).2 (ix2 b k)
      = BitVec.ofNat 32 (sortedFrom (fun p q : Fin 17 => decide ((x (ix2 b p) : EReal) < x (ix2 b q))) k).val := by
  have al : ∀ q : Fin 17, Shape.Idx.along (s := S4096x17) (ix2 b k) 1 q = ix2 b q := by
    intro q
    funext a
    match a with
    | ⟨0, _⟩ => rfl
    | ⟨1, _⟩ => rfl
  unfold Host.sort2
  rw [dif_pos (show 1 < S4096x17.rank by decide)]
  have key : (fun p q : Fin 17 =>
      comparator_f32_i32_d1 (F := Ideal)
        (x (Shape.Idx.along (s := S4096x17) (ix2 b k) 1 p), iotaInDim S4096x17 32 1 (Shape.Idx.along (s := S4096x17) (ix2 b k) 1 p))
        (x (Shape.Idx.along (s := S4096x17) (ix2 b k) 1 q), iotaInDim S4096x17 32 1 (Shape.Idx.along (s := S4096x17) (ix2 b k) 1 q))
        == 1#1) = fun p q => decide ((x (ix2 b p) : EReal) < x (ix2 b q)) := by
    funext p q
    exact (comparator_lt _ _ _ _).trans (congrArg₂ (fun u v => decide ((x u : EReal) < x v)) (al p) (al q))
  refine (congrArg (iotaInDim S4096x17 32 1) (al (sortedFrom (fun p q : Fin 17 =>
      comparator_f32_i32_d1 (F := Ideal)
        (x (Shape.Idx.along (s := S4096x17) (ix2 b k) 1 p), iotaInDim S4096x17 32 1 (Shape.Idx.along (s := S4096x17) (ix2 b k) 1 p))
        (x (Shape.Idx.along (s := S4096x17) (ix2 b k) 1 q), iotaInDim S4096x17 32 1 (Shape.Idx.along (s := S4096x17) (ix2 b k) 1 q))
        == 1#1) k))).trans ?_
  exact congrArg (fun f : Fin 17 → Fin 17 → Bool => BitVec.ofNat 32 (sortedFrom f k).val) key

end TreeTop
-- ==== Proof.RefValue.lean ====
/- The reference program's array read at one element: the keys it sorts by, the rows it gathers, and the propagation
   down the tree, one node overwritten at a time. -/
module

public import proofs.«01_k».proof.Proof.RefOps
public import proofs.«01_k».proof.Proof.Spec
public import proofs.«01_k».proof.Proof.Gen.ReferenceIdeal.Run
public import Idealize.ShloMosaic.Lib.Tactic.CleanTypes

@[expose] public section

noncomputable section

namespace TreeTop

open Idealize.ShloMosaic Idealize.ShloMosaic.TcCoe Cert.ReferenceIdeal Cert.ReferenceIdeal.Gen Cert.ReferenceIdeal.Value

/-- An array over batch, node and feature, read at an element. -/
def at3 (X : FVec Ideal S4096x17x256 .f32) (b : Fin 4096) (c : Fin 17) (z : Fin 256) : EReal := X (ix3 b c z)

/-- The vectors' array read at an element. -/
def atv (X : FVec Ideal S4096x16x256 .f32) (b : Fin 4096) (c : Fin 16) (z : Fin 256) : EReal := X (ix3 b c z)

/-- The attention array read at an element. -/
def ata (X : FVec Ideal S4096x8x17x17 .f32) (b : Fin 4096) (h : Fin 8) (i j : Fin 17) : EReal := X (ix4 b h i j)

/-- One propagation step: node `n` is overwritten by node `p`'s rows less the weighted vector `q`, the rest kept. -/
theorem step (X : FVec Ideal S4096x17x256 .f32) (Y : FVec Ideal S4096x16x256 .f32) (w : BitVec 32) (k : BitVec 32)
    (n p : Fin 17) (q : Fin 16) (h1 h2 h3 h4 h5 h6) (b : Fin 4096) (c : Fin 17) (z : Fin 256)
    (hw : w.toInt = (n.val : Int)) (t : EReal) (ht : Ideal.ofBits .f32 k = t) :
    at3 (Host.scatter scatter_S4096x17x256_S1_S4096x256_01_1_1_0 (fun _ b => b) X
      (broadcastInDim S1 ![] h1 (constantI S_ 32 w))
      (subf (φ := .f32) (shapeCast S4096x256 (extractStridedSlice S4096x1x256 ![0, p.val, 0] X h2) h3)
        (mulf (broadcastInDim S4096x256 ![] h4 (constant S_ .f32 k))
          (shapeCast S4096x256 (extractStridedSlice S4096x1x256 ![0, q.val, 0] Y h5) h6)))) b c z
      = if c = n then at3 X b p z - t * atv Y b q z else at3 X b c z := by
  unfold at3 atv
  refine (scatter_node X w _ b c z).trans ?_
  have e : (w.toInt = (c.val : Int)) = (c = n) := by
    rw [hw]
    exact propext ⟨fun h => Fin.ext (by exact_mod_cast h.symm), fun h => by rw [h]⟩
  rw [← ht]
  simp only [e]
  congr 1
  pointwise

section
variable (V0 : Valuation τ sig (Elt Ideal)) (b : Fin 4096) (z : Fin 256)

/-- The points, the vectors, the attention and the scale, at one batch entry and feature. -/
def pts (c : Fin 17) : EReal := at3 (V0 (Proc.devRef .tc main_arg0)) b c z
@[inherit_doc pts] def vec (c : Fin 16) : EReal := atv (V0 (Proc.devRef .tc main_arg1)) b c z
@[inherit_doc pts] def att (h : Fin 8) (i j : Fin 17) : EReal := ata (V0 (Proc.devRef .tc main_arg2)) b h i j
@[inherit_doc pts] def fac : EReal := (V0 (Proc.devRef .tc main_arg3) : FVec Ideal S1 .f32) (ix1 0)

/-! ## The propagation, one node at a time -/

/-- The step that writes node 1: node 0 less its signed vector 0; the other nodes stay. -/
theorem at_v159 (c : Fin 17) : at3 (res_main_v159 V0) b c z = if c = 1
    then at3 (res_main_v150 V0) b 0 z - 1 * vec V0 b z 0 else at3 (res_main_v150 V0) b c z := by
  unfold res_main_v159
  exact step (res_main_v150 V0) (V0 (Proc.devRef .tc main_arg1)) _ _ 1 0 0 _ _ _ _ _ _ b c z rfl _ Ideal.ofBits_one_f32

/-- The step that writes node 4: node 0 less its signed vector 3; the other nodes stay. -/
theorem at_v168 (c : Fin 17) : at3 (res_main_v168 V0) b c z = if c = 4
    then at3 (res_main_v159 V0) b 0 z - (-1) * vec V0 b z 3 else at3 (res_main_v159 V0) b c z := by
  unfold res_main_v168
  exact step (res_main_v159 V0) (V0 (Proc.devRef .tc main_arg1)) _ _ 4 0 3 _ _ _ _ _ _ b c z rfl _ lit_neg_one

/-- The step that writes node 7: node 0 less its signed vector 6; the other nodes stay. -/
theorem at_v177 (c : Fin 17) : at3 (res_main_v177 V0) b c z = if c = 7
    then at3 (res_main_v168 V0) b 0 z - 1 * vec V0 b z 6 else at3 (res_main_v168 V0) b c z := by
  unfold res_main_v177
  exact step (res_main_v168 V0) (V0 (Proc.devRef .tc main_arg1)) _ _ 7 0 6 _ _ _ _ _ _ b c z rfl _ Ideal.ofBits_one_f32

/-- The step that writes node 2: node 1 less its signed vector 1; the other nodes stay. -/
theorem at_v186 (c : Fin 17) : at3 (res_main_v186 V0) b c z = if c = 2
    then at3 (res_main_v177 V0) b 1 z - (-1) * vec V0 b z 1 else at3 (res_main_v177 V0) b c z := by
  unfold res_main_v186
  exact step (res_main_v177 V0) (V0 (Proc.devRef .tc main_arg1)) _ _ 2 1 1 _ _ _ _ _ _ b c z rfl _ lit_neg_one

/-- The step that writes node 5: node 4 less its signed vector 4; the other nodes stay. -/
theorem at_v195 (c : Fin 17) : at3 (res_main_v195 V0) b c z = if c = 5
    then at3 (res_main_v186 V0) b 4 z - 1 * vec V0 b z 4 else at3 (res_main_v186 V0) b c z := by
  unfold res_main_v195
  exact step (res_main_v186 V0) (V0 (Proc.devRef .tc main_arg1)) _ _ 5 4 4 _ _ _ _ _ _ b c z rfl _ Ideal.ofBits_one_f32

/-- The step that writes node 8: node 7 less its signed vector 7; the other nodes stay. -/
theorem at_v204 (c : Fin 17) : at3 (res_main_v204 V0) b c z = if c = 8
    then at3 (res_main_v195 V0) b 7 z - (-1) * vec V0 b z 7 else at3 (res_main_v195 V0) b c z := by
  unfold res_main_v204
  exact step (res_main_v195 V0) (V0 (Proc.devRef .tc main_arg1)) _ _ 8 7 7 _ _ _ _ _ _ b c z rfl _ lit_neg_one

/-- The step that writes node 3: node 2 less its signed vector 2; the other nodes stay. -/
theorem at_v213 (c : Fin 17) : at3 (res_main_v213 V0) b c z = if c = 3
    then at3 (res_main_v204 V0) b 2 z - 1 * vec V0 b z 2 else at3 (res_main_v204 V0) b c z := by
  unfold res_main_v213
  exact step (res_main_v204 V0) (V0 (Proc.devRef .tc main_arg1)) _ _ 3 2 2 _ _ _ _ _ _ b c z rfl _ Ideal.ofBits_one_f32

/-- The step that writes node 6: node 5 less its signed vector 5; the other nodes stay. -/
theorem at_v222 (c : Fin 17) : at3 (res_main_v222 V0) b c z = if c = 6
    then at3 (res_main_v213 V0) b 5 z - (-1) * vec V0 b z 5 else at3 (res_main_v213 V0) b c z := by
  unfold res_main_v222
  exact step (res_main_v213 V0) (V0 (Proc.devRef .tc main_arg1)) _ _ 6 5 5 _ _ _ _ _ _ b c z rfl _ lit_neg_one

/-- The step that writes node 9: node 8 less its signed vector 8; the other nodes stay. -/
theorem at_v231 (c : Fin 17) : at3 (res_main_v231 V0) b c z = if c = 9
    then at3 (res_main_v222 V0) b 8 z - 1 * vec V0 b z 8 else at3 (res_main_v222 V0) b c z := by
  unfold res_main_v231
  exact step (res_main_v222 V0) (V0 (Proc.devRef .tc main_arg1)) _ _ 9 8 8 _ _ _ _ _ _ b c z rfl _ Ideal.ofBits_one_f32

/-- The step that writes node 11: node 8 less its signed vector 10; the other nodes stay. -/
theorem at_v240 (c : Fin 17) : at3 (res_main_v240 V0) b c z = if c = 11
    then at3 (res_main_v231 V0) b 8 z - 1 * vec V0 b z 10 else at3 (res_main_v231 V0) b c z := by
  unfold res_main_v240
  exact step (res_main_v231 V0) (V0 (Proc.devRef .tc main_arg1)) _ _ 11 8 10 _ _ _ _ _ _ b c z rfl _ Ideal.ofBits_one_f32

/-- The step that writes node 14: node 8 less its signed vector 13; the other nodes stay. -/
theorem at_v249 (c : Fin 17) : at3 (res_main_v249 V0) b c z = if c = 14
    then at3 (res_main_v240 V0) b 8 z - (-1) * vec V0 b z 13 else at3 (res_main_v240 V0) b c z := by
  unfold res_main_v249
  exact step (res_main_v240 V0) (V0 (Proc.devRef .tc main_arg1)) _ _ 14 8 13 _ _ _ _ _ _ b c z rfl _ lit_neg_one

/-- The step that writes node 10: node 9 less its signed vector 9; the other nodes stay. -/
theorem at_v258 (c : Fin 17) : at3 (res_main_v258 V0) b c z = if c = 10
    then at3 (res_main_v249 V0) b 9 z - (-1) * vec V0 b z 9 else at3 (res_main_v249 V0) b c z := by
  unfold res_main_v258
  exact step (res_main_v249 V0) (V0 (Proc.devRef .tc main_arg1)) _ _ 10 9 9 _ _ _ _ _ _ b c z rfl _ lit_neg_one

/-- The step that writes node 12: node 11 less its signed vector 11; the other nodes stay. -/
theorem at_v267 (c : Fin 17) : at3 (res_main_v267 V0) b c z = if c = 12
    then at3 (res_main_v258 V0) b 11 z - (-1) * vec V0 b z 11 else at3 (res_main_v258 V0) b c z := by
  unfold res_main_v267
  exact step (res_main_v258 V0) (V0 (Proc.devRef .tc main_arg1)) _ _ 12 11 11 _ _ _ _ _ _ b c z rfl _ lit_neg_one

/-- The step that writes node 15: node 14 less its signed vector 14; the other nodes stay. -/
theorem at_v276 (c : Fin 17) : at3 (res_main_v276 V0) b c z = if c = 15
    then at3 (res_main_v267 V0) b 14 z - 1 * vec V0 b z 14 else at3 (res_main_v267 V0) b c z := by
  unfold res_main_v276
  exact step (res_main_v267 V0) (V0 (Proc.devRef .tc main_arg1)) _ _ 15 14 14 _ _ _ _ _ _ b c z rfl _ Ideal.ofBits_one_f32

/-- The step that writes node 13: node 12 less its signed vector 12; the other nodes stay. -/
theorem at_v285 (c : Fin 17) : at3 (res_main_v285 V0) b c z = if c = 13
    then at3 (res_main_v276 V0) b 12 z - 1 * vec V0 b z 12 else at3 (res_main_v276 V0) b c z := by
  unfold res_main_v285
  exact step (res_main_v276 V0) (V0 (Proc.devRef .tc main_arg1)) _ _ 13 12 12 _ _ _ _ _ _ b c z rfl _ Ideal.ofBits_one_f32

/-- The array after every node is overwritten. -/
abbrev last : FVec Ideal S4096x17x256 .f32 :=
  Host.scatter scatter_S4096x17x256_S1_S4096x256_01_1_1_0 (fun _ b => b) (res_main_v285 V0) (broadcastInDim S1 ![] bcast_S_S1 (constantI S_ 32 16#32)) (subf (shapeCast _ (extractStridedSlice S4096x1x256 ![0, 15, 0] (res_main_v285 V0) slices_S4096x17x256_S4096x1x256_0_15_0) shapeCasts_S4096x1x256_S4096x256) (mulf (broadcastInDim S4096x256 ![] bcast_S_S4096x256 (constant S_ .f32 0xBF800000#32)) (shapeCast _ (extractStridedSlice S4096x1x256 ![0, 15, 0] (V0 (Proc.devRef .tc main_arg1)) slices_S4096x16x256_S4096x1x256_0_15_0) shapeCasts_S4096x1x256_S4096x256)))

/-- The step that writes node 16: node 15 less its signed vector 15; the other nodes stay. -/
theorem at_last (c : Fin 17) : at3 (last V0) b c z = if c = 16
    then at3 (res_main_v285 V0) b 15 z - (-1) * vec V0 b z 15 else at3 (res_main_v285 V0) b c z :=
  step (res_main_v285 V0) (V0 (Proc.devRef .tc main_arg1)) _ _ 16 15 15 _ _ _ _ _ _ b c z rfl _ lit_neg_one

/-- Sixteen such steps in the tree's breadth-first order leave at every node the tree's value from the root's. -/
theorem steps_tree (S0 S1 S2 S3 S4 S5 S6 S7 S8 S9 S10 S11 S12 S13 S14 S15 S16 : Fin 17 → EReal) (v : Fin 16 → EReal)
    (h1 : ∀ c, S1 c = if c = 1 then S0 0 - 1 * v 0 else S0 c)
    (h2 : ∀ c, S2 c = if c = 4 then S1 0 - (-1) * v 3 else S1 c)
    (h3 : ∀ c, S3 c = if c = 7 then S2 0 - 1 * v 6 else S2 c)
    (h4 : ∀ c, S4 c = if c = 2 then S3 1 - (-1) * v 1 else S3 c)
    (h5 : ∀ c, S5 c = if c = 5 then S4 4 - 1 * v 4 else S4 c)
    (h6 : ∀ c, S6 c = if c = 8 then S5 7 - (-1) * v 7 else S5 c)
    (h7 : ∀ c, S7 c = if c = 3 then S6 2 - 1 * v 2 else S6 c)
    (h8 : ∀ c, S8 c = if c = 6 then S7 5 - (-1) * v 5 else S7 c)
    (h9 : ∀ c, S9 c = if c = 9 then S8 8 - 1 * v 8 else S8 c)
    (h10 : ∀ c, S10 c = if c = 11 then S9 8 - 1 * v 10 else S9 c)
    (h11 : ∀ c, S11 c = if c = 14 then S10 8 - (-1) * v 13 else S10 c)
    (h12 : ∀ c, S12 c = if c = 10 then S11 9 - (-1) * v 9 else S11 c)
    (h13 : ∀ c, S13 c = if c = 12 then S12 11 - (-1) * v 11 else S12 c)
    (h14 : ∀ c, S14 c = if c = 15 then S13 14 - 1 * v 14 else S13 c)
    (h15 : ∀ c, S15 c = if c = 13 then S14 12 - 1 * v 12 else S14 c)
    (h16 : ∀ c, S16 c = if c = 16 then S15 15 - (-1) * v 15 else S15 c) (c : Fin 17) :
    S16 c = tree (S0 0) v c := by
  have neg : ∀ x y : EReal, x - (-1) * y = x + y := by
    intro x y; rw [EReal.neg_mul, one_mul, sub_eq_add_neg, neg_neg]
  simp only [neg, one_mul] at h1 h2 h3 h4 h5 h6 h7 h8 h9 h10 h11 h12 h13 h14 h15 h16
  unfold tree
  fin_cases c
  all_goals
    simp only [h1, h2, h3, h4, h5, h6, h7, h8, h9, h10, h11, h12, h13, h14, h15, h16, Fin.reduceFinMk, Fin.reduceEq, if_true, if_false, Fin.zero_eta, Fin.mk_one, Fin.isValue, zero_ne_one, one_ne_zero]
    rfl

/-- After all steps node `c` holds the tree's value from the root's. -/
theorem last_tree (c : Fin 17) : at3 (last V0) b c z = tree (at3 (res_main_v150 V0) b 0 z) (vec V0 b z) c :=
  steps_tree (fun c => at3 (res_main_v150 V0) b c z) (fun c => at3 (res_main_v159 V0) b c z) (fun c => at3 (res_main_v168 V0) b c z) (fun c => at3 (res_main_v177 V0) b c z) (fun c => at3 (res_main_v186 V0) b c z) (fun c => at3 (res_main_v195 V0) b c z) (fun c => at3 (res_main_v204 V0) b c z) (fun c => at3 (res_main_v213 V0) b c z) (fun c => at3 (res_main_v222 V0) b c z) (fun c => at3 (res_main_v231 V0) b c z) (fun c => at3 (res_main_v240 V0) b c z) (fun c => at3 (res_main_v249 V0) b c z) (fun c => at3 (res_main_v258 V0) b c z) (fun c => at3 (res_main_v267 V0) b c z) (fun c => at3 (res_main_v276 V0) b c z) (fun c => at3 (res_main_v285 V0) b c z) (fun c => at3 (last V0) b c z)
    (vec V0 b z) (at_v159 V0 b z) (at_v168 V0 b z) (at_v177 V0 b z) (at_v186 V0 b z) (at_v195 V0 b z) (at_v204 V0 b z) (at_v213 V0 b z) (at_v222 V0 b z) (at_v231 V0 b z) (at_v240 V0 b z) (at_v249 V0 b z) (at_v258 V0 b z) (at_v267 V0 b z) (at_v276 V0 b z) (at_v285 V0 b z) (at_last V0 b z) c

end

end TreeTop
-- ==== Proof.RefPick.lean ====
/- What the reference program starts the propagation from: the two nodes its sort puts first, their rows gathered from
   the updated array, and the mean of the two rows. -/
module

public import proofs.«01_k».proof.Proof.RefValue

@[expose] public section

noncomputable section

namespace TreeTop

open Idealize.ShloMosaic Idealize.ShloMosaic.TcCoe Cert.ReferenceIdeal Cert.ReferenceIdeal.Gen Cert.ReferenceIdeal.Value

variable (V0 : Valuation τ sig (Elt Ideal)) (b : Fin 4096) (z : Fin 256)

/-- The key by which the nodes of batch entry `b` are sorted. -/
def key (i : Fin 17) : EReal := (res_main_v4 V0 : FVec Ideal S4096x17 .f32) (ix2 b i)

/-- A node's key is its score over eight, negated. -/
theorem key_eq (i : Fin 17) : key V0 b i = -(score (att V0 b) i * ((1 / 8 : ℝ) : EReal)) := by
  unfold key res_main_v4
  clean_types
  pointwise
  simp only [div_eight]
  rw [sum_mul_coe _ _ _ (by norm_num)]
  rfl

/-- The node that the sort puts at place `r`. -/
def place (r : Fin 17) : Fin 17 := sortedFrom (fun p q => decide (key V0 b p < key V0 b q)) r

/-- The first place is the node of greatest score, the first of those. -/
theorem place_first : Best (score (att V0 b)) (fun _ => True) (place V0 b 0) :=
  best_first (score (att V0 b)) (key V0 b) fun x y => by rw [key_eq, key_eq]; exact key_lt _ _

/-- The second place is the first of greatest score among the others. -/
theorem place_second : Best (score (att V0 b)) (fun q => q ≠ place V0 b 0) (place V0 b 1) :=
  best_second (score (att V0 b)) (key V0 b) fun x y => by rw [key_eq, key_eq]; exact key_lt _ _

/-- The index words are the numbers of the first two places. -/
theorem top_word (r : Fin 2) : (res_main_v141 V0 : IVec S4096x2x1 32) (ix3 b r 0)
    = BitVec.ofNat 32 (place V0 b ⟨r.val, by omega⟩).val := by
  unfold res_main_v141
  clean_types
  pointwise
  exact sort_node (res_main_v4 V0) b ⟨r.val, by omega⟩

/-- A node's number is not negative, so the wrap leaves it. -/
theorem wrap_word (r : Fin 2) : (res_main_call1_v4 V0 : IVec S4096x2x1 32) (ix3 b r 0)
    = BitVec.ofNat 32 (place V0 b ⟨r.val, by omega⟩).val := by
  unfold res_main_call1_v4
  clean_types
  pointwise
  have h := top_word V0 b r
  refine (congrArg (fun w => Scalar.select (IntOp.cmpi .slt w 0#32) (IntOp.addi w 17#32) w) h).trans ?_
  refine Routing.wrap_of_lt _ _ ?_
  rw [BitVec.toNat_ofNat]
  omega

/-- The updated array holds at node `c` the row that node contributes. -/
theorem rows_pick (c : Fin 17) : concatenate S4096x17x256 1 [⟨S4096x9x256, (res_main_v130 V0 : FVec Ideal S4096x9x256 .f32)⟩,
      ⟨S4096x8x256, (res_main_v139 V0 : FVec Ideal S4096x8x256 .f32)⟩]
      concatenates_S4096x9x256_S4096x8x256_S4096x17x256_d1 (ix3 b c z) = pick (pts V0 b z) (vec V0 b z) c := by
  unfold res_main_v130 res_main_v139
  clean_types
  pointwise
  fin_vals c with hk
  all_goals simp only [hk, Nat.reduceSub, Nat.reduceLT, ↓reduceDIte]
  all_goals
    unfold pick
    rw [hk]
    first
    | rfl
    | (rw [lit_neg_one, neg_one_mul, ← sub_eq_add_neg]; rfl)

/-- A conjunction of bits that are all set is set. -/
theorem fold_set {α : Type} [DecidableEq α] (S : Finset α) (f : α → BitVec 1) (h : ∀ x, f x = 1#1) :
    S.fold IntOp.andi 1#1 f = 1#1 := by
  induction S using Finset.induction_on with
  | empty => rfl
  | insert a S ha ih => rw [Finset.fold_insert ha, ih, h]; rfl

/-- The bound test of the gathered rows holds. -/
theorem in_bounds (r : Fin 2) :
    Host.reduce IntOp.andi (andi (cmpi .sge (res_main_call1_v4 V0) (broadcastInDim S4096x2x1 ![] bcast_S_S4096x2x1 (constantI S_ 32 0#32)))
        (cmpi .sle (res_main_call1_v4 V0) (broadcastInDim S4096x2x1 ![0, 1, 2] bcast_S1x1x1_S4096x2x1_0_1_2
          (broadcastInDim S1x1x1 ![2] bcast_S1_S1x1x1_2 (constantI S1 32 16#32)))))
      (constantI S_ 1 1#1) reducesTo_S4096x2x1_S4096x2_d2 h_S_ (ix2 b r) = 1#1 := by
  pointwise
  have all : ∀ x : S4096x2x1.Idx, IntOp.andi (IntOp.cmpi .sge ((res_main_call1_v4 V0 : IVec S4096x2x1 32) x) 0#32)
      (IntOp.cmpi .sle ((res_main_call1_v4 V0 : IVec S4096x2x1 32) x) 16#32) = 1#1 := by
    intro x
    have e : x = ix3 (x 0) (x 1) 0 := by
      funext a
      refine Fin.cases rfl (fun a => Fin.cases rfl (fun a => Fin.cases ?_ (fun a => a.elim0) a) a) a
      exact Fin.ext (by have := (x 2).isLt; simpa using this)
    have w := wrap_word V0 (x 0) (x 1)
    rw [e]
    refine (congrArg (fun w => IntOp.andi (IntOp.cmpi .sge w 0#32) (IntOp.cmpi .sle w 16#32)) w).trans ?_
    generalize place V0 (x 0) _ = p
    revert p
    decide
  classical exact fold_set _ _ all

/-- The mean of two gathered rows, the bound test kept. -/
theorem mean_rows (M : IVec S4096x2 1) (G N : FVec Ideal S4096x2x256 .f32) (hM : ∀ r, M (ix2 b r) = 1#1) :
    shapeCast S4096x256 (broadcastInDim S4096x1x256 ![0, 2] bcast_S4096x256_S4096x1x256_0_2
      (Host.divf (Host.reduceAdd (select (broadcastInDim S4096x2x256 ![0, 1] bcast_S4096x2_S4096x2x256_0_1 M) G N)
        (constant S_ FTy.f32 0#32) reducesTo_S4096x2x256_S4096x256_d1 h_S_)
        (broadcastInDim S4096x256 ![] bcast_S_S4096x256 (constant S_ FTy.f32 1073741824#32))))
        shapeCasts_S4096x1x256_S4096x256 (ix2 b z)
      = ((G (ix3 b 0 z) : EReal) + G (ix3 b 1 z)) * ((1 / 2 : ℝ) : EReal) := by
  pointwise
  rw [div_two, Fin.sum_univ_two, hM, hM]
  rfl

/-- The root's value is the mean of the two chosen nodes' rows. -/
theorem root_value : at3 (res_main_v150 V0) b 0 z
    = (pick (pts V0 b z) (vec V0 b z) (place V0 b 0) + pick (pts V0 b z) (vec V0 b z) (place V0 b 1))
      * ((1 / 2 : ℝ) : EReal) := by
  unfold at3 res_main_v150
  clean_types
  refine (scatter_node _ 0#32 _ b 0 z).trans ?_
  refine (if_pos rfl).trans ?_
  refine (mean_rows b z _ _ _ (fun r => in_bounds V0 b r)).trans ?_
  have g : ∀ r : Fin 2, Host.gather gather_S4096x17x256_S4096x2x1_S4096x2x256_2_1_0_0_1_2_11256
      (concatenate S4096x17x256 1 [⟨S4096x9x256, res_main_v130 V0⟩, ⟨S4096x8x256, res_main_v139 V0⟩]
        concatenates_S4096x9x256_S4096x8x256_S4096x17x256_d1) (res_main_call1_v4 V0) (ix3 b r z)
      = pick (pts V0 b z) (vec V0 b z) (place V0 b ⟨r.val, by omega⟩) := fun r =>
    (gather_node _ _ b r z _ (wrap_word V0 b r)).trans (rows_pick V0 b z _)
  exact congrArg (fun x : EReal => x * ((1 / 2 : ℝ) : EReal)) (congrArg₂ (fun x y : EReal => x + y) (g 0) (g 1))

/-- Scaling by a broadcast scalar and adding an array, at one element. -/
theorem scaled (X P : FVec Ideal S4096x17x256 .f32) (f : FVec Ideal S1 .f32) (c : Fin 17) :
    at3 (addf (mulf X (broadcastInDim S4096x17x256 ![0, 1, 2] bcast_S1x1x1_S4096x17x256_0_1_2
      (broadcastInDim S1x1x1 ![2] bcast_S1_S1x1x1_2 f))) P) b c z
      = at3 X b c z * (f (ix1 0) : EReal) + at3 P b c z := by
  unfold at3
  pointwise

/-- The reference's result at one element: the outcome for the first and the second best node. -/
theorem ref_value (c : Fin 17) :
    at3 (addf (mulf (last V0) (broadcastInDim S4096x17x256 ![0, 1, 2] bcast_S1x1x1_S4096x17x256_0_1_2
      (broadcastInDim S1x1x1 ![2] bcast_S1_S1x1x1_2 (V0 (Proc.devRef .tc main_arg3))))) (V0 (Proc.devRef .tc main_arg0))) b c z
      = outcome (pts V0 b z) (vec V0 b z) (fac V0) (place V0 b 0) (place V0 b 1) c := by
  refine (scaled b z _ _ _ c).trans ?_
  refine congrArg (fun x : EReal => x * fac V0 + pts V0 b z c) ((last_tree V0 b z c).trans ?_)
  rw [root_value]

end TreeTop
-- ==== Proof.Equation.lean ====
/- The two programs meet: under the precondition both end with the same result array. -/
module

public import proofs.«01_k».proof.Defs
public import proofs.«01_k».proof.Proof.KernelArray
public import proofs.«01_k».proof.Proof.RefPick
public import proofs.«01_k».proof.Proof.Gen.Pre_above_bottom
public import proofs.«01_k».proof.Proof.Gen.ReferenceIdeal
public import proofs.«01_k».proof.Proof.Gen.ReferenceIdeal.Run
public import Idealize.ShloMosaic.Lib.ReduceAll

@[expose] public section

set_option maxRecDepth 16384

noncomputable section

namespace TreeTop

open Idealize.ShloMosaic Idealize.ShloMosaic.TcCoe Idealize.ShloMosaic.StableHlo

/-- Under the precondition no attention entry is minus infinity. -/
theorem above (P : FVec Ideal Cert.Pre_above_bottom.S4096x17x256 .f32) (V : FVec Ideal Cert.Pre_above_bottom.S4096x16x256 .f32)
    (A : FVec Ideal Cert.Pre_above_bottom.S4096x8x17x17 .f32) (f : FVec Ideal Cert.Pre_above_bottom.S1 .f32)
    (h : Cert.Pre_above_bottom.fn (F := Ideal) P V A f = fun _ => 1#1) (y) : (A y : EReal) ≠ ⊥ := by
  unfold Cert.Pre_above_bottom.fn at h
  have e := Host.reduce_andi_all _ _ _ _ ix0 (congrFun h ix0) y
  have e' : Ideal.cmp .ogt (A y) (Ideal.ofBits .f32 0xFF800000#32) = 1 := e
  rw [Ideal.cmp_ogt_eq_one, lit_bot] at e'
  exact e'.ne'

/-- The reference's result at an element, in the launch's arrays. -/
theorem ref_result (V0 : Valuation Cert.ReferenceIdeal.τ Cert.ReferenceIdeal.sig (Elt Ideal)) (b : Fin 4096) (z : Fin 256) (c : Fin 17) :
    outcome (pts V0 b z) (vec V0 b z) (fac V0) (place V0 b 0) (place V0 b 1) c
      = result (fun b n z => pts V0 b z n) (fun b n z => vec V0 b z n) (att V0) (fac V0) b c z := by
  have h0 : place V0 b 0 = first (score (att V0 b)) := (place_first V0 b).unique (first_best _)
  have h1 : place V0 b 1 = second (score (att V0 b)) :=
    (place_second V0 b).unique (by rw [h0]; exact second_best _)
  rw [h0, h1]
  rfl

/-- The array both programs end with, of the kernel's launch. -/
def answer (m : (ℓ : Loc Cert.KernelIdeal.nD Cert.KernelIdeal.τ Cert.KernelIdeal.sig) → Buf (Elt Ideal) ℓ) (c : Dev Cert.KernelIdeal.nD) :
    FVec Ideal Cert.KernelIdeal.S4096x17x256 .f32 :=
  fun x => result (lp m c) (lv m c) (la m c) (lf m c) (x 0) (x 1) (x 2)

/-- The ideal kernel's result is the reference's, on every launch that meets the precondition. -/
theorem algebraic : Cert.algebraic_KernelIdeal_ReferenceIdeal_pre_above_bottom := by
  intro m ρ m' ρ' hpre hagree
  refine ⟨fun c => answer m c, ?_, ?_⟩
  · refine (θ_run Cert.KernelIdeal.defs _ _).mono (fun r h c => ⟨?_, (h c).2⟩)
      (kernel_run m ρ fun c b h i j => above _ _ _ _ (hpre c) (ix4 b h i j))
    refine funext fun x => ?_
    rw [← ix3_eta x]
    exact (h c).1 (x 0) (x 1) (x 2)
  · refine (θ_run Cert.ReferenceIdeal.defs _ _).mono (fun r h c => ⟨(h c).1.trans ?_, (h c).2⟩)
      (Cert.ReferenceIdeal.Value.run (F := Ideal) m' ρ')
    refine funext fun x => ?_
    rw [← ix3_eta x]
    refine (ref_value (launchContents m' c) (x 0) (x 2) (x 1)).trans ?_
    refine (ref_result (launchContents m' c) (x 0) (x 2) (x 1)).trans ?_
    obtain ⟨h0, h1, h2, h3⟩ := hagree c
    have e0 : (fun b n z => pts (launchContents m' c) b z n) = lp m c :=
      funext fun b => funext fun n => funext fun z => congrFun h0 (ix3 b n z)
    have e1 : (fun b n z => vec (launchContents m' c) b z n) = lv m c :=
      funext fun b => funext fun n => funext fun z => congrFun h1 (ix3 b n z)
    have e2 : att (launchContents m' c) = la m c :=
      funext fun b => funext fun h => funext fun i => funext fun j => congrFun h2 (ix4 b h i j)
    have e3 : fac (launchContents m' c) = lf m c := congrFun h3 (ix1 0)
    have e : result (fun b n z => pts (launchContents m' c) b z n) (fun b n z => vec (launchContents m' c) b z n)
        (att (launchContents m' c)) (fac (launchContents m' c)) = result (lp m c) (lv m c) (la m c) (lf m c) := by
      rw [e0, e1, e2, e3]
    exact congrFun (congrFun (congrFun e (x 0)) (x 1)) (x 2)

end TreeTop
-- ==== Proof.lean ====
/- The certificate: the frames of the kernel, of the ideal kernel and of the reference, and the equality of the two results,
   put together into `Cert.Claim`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_above_bottom
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments as they were, and has no semaphore to leave raised. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2)
        ∧ r.2.mem ((c.tc : Thread _ _).loc Cert.ReferenceIdeal.main_arg3) = m ((c.tc : Thread _ _).loc Cert.ReferenceIdeal.main_arg3))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- Everything claimed: the frames, the ideal kernel as the kernel's own text, and its result as the reference's. -/
theorem claim : Cert.Claim := ⟨Cert.Kernel.Gen.facts, Cert.KernelIdeal.Gen.facts, Cert.ReferenceIdeal.Gen.facts, Cert.Pre_above_bottom.Gen.facts, by
  exact ⟨fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ, trivial, TreeTop.algebraic⟩⟩

end Cert.Proof

end
